-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_decided [hKernelIdeal : Cert.KernelIdeal.Facts] [hReferenceIdeal : Cert.ReferenceIdeal.Facts] [hOn_decided : Cert.On_decided.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 10240]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 10240]⟩ : Shape).Idx, (Cert.On_decided.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v20) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_decided : Cert.On_decided.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_decided (hKernelIdeal := hKernelIdeal) (hReferenceIdeal := hReferenceIdeal) (hOn_decided := hOn_decided)
-- ==== On_decided.lean ====
abbrev S8192x1024 : Shape := ⟨2, ![8192, 1024]⟩
abbrev S10240x1024 : Shape := ⟨2, ![10240, 1024]⟩
abbrev S1024x10240 : Shape := ⟨2, ![1024, 10240]⟩
abbrev S8192x10240 : Shape := ⟨2, ![8192, 10240]⟩
abbrev S_ : Shape := ⟨0, ![]⟩
abbrev S8192x512 : Shape := ⟨2, ![8192, 512]⟩
abbrev S8192x1 : Shape := ⟨2, ![8192, 1]⟩
abbrev S8192 : Shape := ⟨1, ![8192]⟩
abbrev S8192x512x1 : Shape := ⟨3, ![8192, 512, 1]⟩
abbrev S8192x512x2 : Shape := ⟨3, ![8192, 512, 2]⟩

class Facts : Prop where
  transposes_S10240x1024_S1024x10240_1_0 : S10240x1024.Transposes [1, 0] S1024x10240
  bcast_S_S8192x10240 : S_.BroadcastsInDim S8192x10240 (![] : Fin 0 → Fin S8192x10240.rank)
  sliceFits_S8192x10240_S8192x512 : S8192x10240.Slices (fun _ => 0) S8192x512
  slices_S8192x512_S8192x1_0_0 : S8192x512.Slices ![0, 0] S8192x1
  slices_S8192x512_S8192x1_0_511 : S8192x512.Slices ![0, 511] S8192x1
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S_S8192x512 : S_.BroadcastsInDim S8192x512 (![] : Fin 0 → Fin S8192x512.rank)
  bcast_S8192x1_S8192x512_0_1 : S8192x1.BroadcastsInDim S8192x512 (![0, 1] : Fin 2 → Fin S8192x512.rank)
  bcast_S8192x512_S8192x512x1_0_1 : S8192x512.BroadcastsInDim S8192x512x1 (![0, 1] : Fin 2 → Fin S8192x512x1.rank)
  concatenates_S8192x512x1_S8192x512x1_S8192x512x2_d2 : Shape.Concatenates [S8192x512x1, S8192x512x1] S8192x512x2 2
  bcast_S8192x1_S8192x10240_0_1 : S8192x1.BroadcastsInDim S8192x10240 (![0, 1] : Fin 2 → Fin S8192x10240.rank)
  dot_S8192x1024_S1024x10240_S8192x10240_1_0_0_1_n_n_wf : DotDims.WF S8192x1024 S1024x10240 S8192x10240 [1] [0] [0] [1] [] []
  scatter_S8192x10240_S8192x512x2_S8192x512_n_01_01_2_wf : ScatterDims.WF S8192x10240 S8192x512x2 S8192x512 [] [0, 1] [0, 1] 2

variable [Facts]

def dot_S8192x1024_S1024x10240_S8192x10240_1_0_0_1_n_n : DotDims S8192x1024 S1024x10240 S8192x10240 where
  lhsContracting := [1]
  rhsContracting := [0]
  lhsNonContracting := [0]
  rhsNonContracting := [1]
  lhsBatch := []
  rhsBatch := []
  wf := dot_S8192x1024_S1024x10240_S8192x10240_1_0_0_1_n_n_wf
def scatter_S8192x10240_S8192x512x2_S8192x512_n_01_01_2 : ScatterDims S8192x10240 S8192x512x2 S8192x512 where
  updateWindowDims := []
  insertedWindowDims := [0, 1]
  scatterDimsToOperandDims := [0, 1]
  indexVectorDim := 2
  wf := scatter_S8192x10240_S8192x512x2_S8192x512_n_01_01_2_wf
def fn_relu {F : FTy → Type} [FloatOps F] (arg0 : FVec F S8192x10240 .f32) : FVec F S8192x10240 .f32 :=
  let cst : FVec F S_ .f32 := constant S_ .f32 0x00000000#32
  let v0 : FVec F S8192x10240 .f32 := broadcastInDim S8192x10240 ![] bcast_S_S8192x10240 cst
  let v1 : FVec F S8192x10240 .f32 := maximumf arg0 v0
  v1

def fn_part2 {F : FTy → Type} [FloatOps F] (main_v3 : FVec F S8192x10240 .f32) (main_v34 : IVec S8192x10240 1) (main_cst_8 : FVec F S_ .f32) : IVec S8192x10240 1 :=
  let main_v35 : FVec F S8192x10240 .f32 := broadcastInDim S8192x10240 ![] bcast_S_S8192x10240 main_cst_8
  let main_v36 : IVec S8192x10240 1 := cmpf .ole main_v3 main_v35
  let main_v37 : IVec S8192x10240 1 := ori main_v34 main_v36
  main_v37

def fn_part1 {F : FTy → Type} [FloatOps F] (main_v3 : FVec F S8192x10240 .f32) (main_v4 : FVec F S8192x1 .f32) (main_v5 : FVec F S8192x1 .f32) (main_values_0 : FVec F S8192x512 .f32) (main_indices_1 : IVec S8192x512 32) (main_v10 : IVec S8192x1 32) (main_v11 : FVec F S8192x10240 .f32) (main_v13 : IVec S8192x1 1) (main_v15 : IVec S8192x1 32) : IVec S8192x10240 1 :=
  let main_v16 : IVec S8192x1 32 := select main_v13 main_v15 main_v10
  let main_c_4 : IVec S_ 32 := constantI S_ 32 0#32
  let main_v17 : IVec S8192x512 32 := broadcastInDim S8192x512 ![] bcast_S_S8192x512 main_c_4
  let main_v18 : IVec S8192x512 1 := cmpi .slt main_indices_1 main_v17
  let main_c_5 : IVec S_ 32 := constantI S_ 32 10240#32
  let main_v19 : IVec S8192x512 32 := broadcastInDim S8192x512 ![] bcast_S_S8192x512 main_c_5
  let main_v20 : IVec S8192x512 32 := addi main_indices_1 main_v19
  let main_v21 : IVec S8192x512 32 := select main_v18 main_v20 main_indices_1
  let main_v22 : IVec S8192x512 32 := broadcastInDim S8192x512 ![0, 1] bcast_S8192x1_S8192x512_0_1 main_v16
  let main_v23 : IVec S8192x512x1 32 := broadcastInDim S8192x512x1 ![0, 1] bcast_S8192x512_S8192x512x1_0_1 main_v22
  let main_v24 : IVec S8192x512x1 32 := broadcastInDim S8192x512x1 ![0, 1] bcast_S8192x512_S8192x512x1_0_1 main_v21
  let main_v25 : IVec S8192x512x2 32 := (fun a b => concatenate S8192x512x2 2 [⟨S8192x512x1, a⟩, ⟨S8192x512x1, b⟩] concatenates_S8192x512x1_S8192x512x1_S8192x512x2_d2) main_v23 main_v24
  let main_v26 : FVec F S8192x10240 .f32 := (fun x i u => Host.scatter scatter_S8192x10240_S8192x512x2_S8192x512_n_01_01_2 (fun _ b => b) x i u) main_v11 main_v25 main_values_0
  let main_cst_6 : FVec F S_ .f32 := constant S_ .f32 0x00000000#32
  let main_v27 : FVec F S8192x10240 .f32 := broadcastInDim S8192x10240 ![] bcast_S_S8192x10240 main_cst_6
  let main_v28 : IVec S8192x10240 1 := cmpf .ogt main_v26 main_v27
  let main_cst_7 : FVec F S_ .f32 := constant S_ .f32 0x37000000#32
  let main_v29 : FVec F S8192x1 .f32 := broadcastInDim S8192x1 ![] bcast_S_S8192x1 main_cst_7
  let main_v30 : FVec F S8192x1 .f32 := mulf main_v4 main_v29
  let main_v31 : FVec F S8192x1 .f32 := subf main_v5 main_v30
  let main_v32 : FVec F S8192x10240 .f32 := broadcastInDim S8192x10240 ![0, 1] bcast_S8192x1_S8192x10240_0_1 main_v31
  let main_v33 : IVec S8192x10240 1 := cmpf .olt main_v3 main_v32
  let main_v34 : IVec S8192x10240 1 := ori main_v28 main_v33
  let main_cst_8 : FVec F S_ .f32 := constant S_ .f32 0x00000000#32
  fn_part2 (F := F) main_v3 main_v34 main_cst_8

def fn {F : FTy → Type} [FloatOps F] (main_arg0 : FVec F S8192x1024 .f32) (main_arg1 : FVec F S10240x1024 .f32) : IVec S8192x10240 1 :=
  let main_v0 : FVec F S1024x10240 .f32 := (transpose S1024x10240 [1, 0] · transposes_S10240x1024_S1024x10240_1_0) main_arg1
  let main_v1 : FVec F S8192x10240 .f32 := (fun l r => Host.dotGeneral dot_S8192x1024_S1024x10240_S8192x10240_1_0_0_1_n_n none l r) main_arg0 main_v0
  let main_cst : FVec F S_ .f32 := constant S_ .f32 0x00000000#32
  let main_v2 : FVec F S8192x10240 .f32 := broadcastInDim S8192x10240 ![] bcast_S_S8192x10240 main_cst
  let main_v3 : FVec F S8192x10240 .f32 := maximumf main_v1 main_v2
  let main_values : FVec F S8192x512 .f32 := (fun x => (Host.topK S8192x512 1 (FloatOps.cmpfTotal .gt) x sliceFits_S8192x10240_S8192x512).1) main_v3
  let main_indices : IVec S8192x512 32 := (fun x => (Host.topK S8192x512 1 (FloatOps.cmpfTotal .gt) x sliceFits_S8192x10240_S8192x512).2) main_v3
  let main_v4 : FVec F S8192x1 .f32 := (extractStridedSlice S8192x1 ![0, 0] · slices_S8192x512_S8192x1_0_0) main_values
  let main_v5 : FVec F S8192x1 .f32 := (extractStridedSlice S8192x1 ![0, 511] · slices_S8192x512_S8192x1_0_511) main_values
  let main_v6 : FVec F S1024x10240 .f32 := (transpose S1024x10240 [1, 0] · transposes_S10240x1024_S1024x10240_1_0) main_arg1
  let main_v7 : FVec F S8192x10240 .f32 := (fun l r => Host.dotGeneral dot_S8192x1024_S1024x10240_S8192x10240_1_0_0_1_n_n none l r) main_arg0 main_v6
  let main_v8 : FVec F S8192x10240 .f32 := fn_relu (F := F) main_v7
  let main_values_0 : FVec F S8192x512 .f32 := (fun x => (Host.topK S8192x512 1 (FloatOps.cmpfTotal .gt) x sliceFits_S8192x10240_S8192x512).1) main_v8
  let main_indices_1 : IVec S8192x512 32 := (fun x => (Host.topK S8192x512 1 (FloatOps.cmpfTotal .gt) x sliceFits_S8192x10240_S8192x512).2) main_v8
  let main_v9 : IVec S8192 32 := iotaInDim S8192 32 0
  let main_v10 : IVec S8192x1 32 := broadcastInDim S8192x1 ![0] bcast_S8192_S8192x1_0 main_v9
  let main_cst_2 : FVec F S_ .f32 := constant S_ .f32 0x00000000#32
  let main_v11 : FVec F S8192x10240 .f32 := broadcastInDim S8192x10240 ![] bcast_S_S8192x10240 main_cst_2
  let main_c : IVec S_ 32 := constantI S_ 32 0#32
  let main_v12 : IVec S8192x1 32 := broadcastInDim S8192x1 ![] bcast_S_S8192x1 main_c
  let main_v13 : IVec S8192x1 1 := cmpi .slt main_v10 main_v12
  let main_c_3 : IVec S_ 32 := constantI S_ 32 8192#32
  let main_v14 : IVec S8192x1 32 := broadcastInDim S8192x1 ![] bcast_S_S8192x1 main_c_3
  let main_v15 : IVec S8192x1 32 := addi main_v10 main_v14
  fn_part1 (F := F) main_v3 main_v4 main_v5 main_values_0 main_indices_1 main_v10 main_v11 main_v13 main_v15
-- ==== Kernel.lean ====
abbrev S8192x1024 : Shape := ⟨2, ![8192, 1024]⟩
abbrev S10240x1024 : Shape := ⟨2, ![10240, 1024]⟩
abbrev S8192x10240 : Shape := ⟨2, ![8192, 10240]⟩
abbrev S256x1024 : Shape := ⟨2, ![256, 1024]⟩
abbrev S256x10240 : Shape := ⟨2, ![256, 10240]⟩
abbrev S256x1 : Shape := ⟨2, ![256, 1]⟩
abbrev S640x1024 : Shape := ⟨2, ![640, 1024]⟩
abbrev S256x640 : Shape := ⟨2, ![256, 640]⟩
abbrev S256 : Shape := ⟨1, ![256]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S10240x1024, .f32⟩
  | .hbm, ⟨2, _⟩ => ⟨S8192x1024, .bf16⟩
  | .hbm, ⟨3, _⟩ => ⟨S10240x1024, .bf16⟩
  | .hbm, ⟨4, _⟩ => ⟨S8192x10240, .f32⟩
  | .local _ .vmem, ⟨0, _⟩ => ⟨S256x1024, .bf16⟩
  | .local _ .vmem, ⟨1, _⟩ => ⟨S256x1024, .bf16⟩
  | .local _ .vmem, ⟨2, _⟩ => ⟨S10240x1024, .bf16⟩
  | .local _ .vmem, ⟨3, _⟩ => ⟨S256x10240, .f32⟩
  | .local _ .vmem, ⟨4, _⟩ => ⟨S256x10240, .f32⟩
  | .local _ .vmem, ⟨5, _⟩ => ⟨S256x10240, .f32⟩
  | .local _ .vmem, ⟨6, _⟩ => ⟨S256x10240, .f32⟩
  | .local _ .vmem, ⟨7, _⟩ => ⟨S256x1, .f32⟩
  | .local _ .vmem, ⟨8, _⟩ => ⟨S256x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v1 : BitVec 1 := Scalar.cmpi .eq v0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_4 : BitVec 32 := 0#32
  let c17_i32 : BitVec 32 := 17#32
  let v11 : BitVec 32 := Scalar.addi c0_i32_4 c17_i32
  let c1_i32_5 : BitVec 32 := 1#32
  ⟨c0_i32_4, v11, c1_i32_5⟩
def k0_off1 (k0_t1 : Fin k0_t1_loop.trips) : Fin 2 → Nat :=
  let c0_i32_4 : BitVec 32 := 0#32
  let c1_i32_5 : BitVec 32 := 1#32
  let arg8 : BitVec 32 := Scf.iv c0_i32_4 c1_i32_5 k0_t1
  let c16_i32 : BitVec 32 := 16#32
  let v16 : BitVec 32 := Scalar.remsi arg8 c16_i32
  let c640_i32 : BitVec 32 := 640#32
  let v19 : BitVec 32 := Scalar.muli v16 c640_i32
  let v20 : Index := Scalar.indexCast v19
  let c0_11 : Index := 0#32
  ![v20.toNat, 0]
def k0_off2 (k0_t1 : Fin k0_t1_loop.trips) : Fin 2 → Nat :=
  let c0_14 : Index := 0#32
  let c0_i32_4 : BitVec 32 := 0#32
  let c1_i32_5 : BitVec 32 := 1#32
  let arg8 : BitVec 32 := Scf.iv c0_i32_4 c1_i32_5 k0_t1
  let c16_i32 : BitVec 32 := 16#32
  let v16 : BitVec 32 := Scalar.remsi arg8 c16_i32
  let c640_i32_13 : BitVec 32 := 640#32
  let v24 : BitVec 32 := Scalar.muli v16 c640_i32_13
  let v25 : Index := Scalar.indexCast v24
  ![0, v25.toNat]
def k0_cond3 (i : grid0.Coords) : BitVec 1 :=
  let arg0 : BitVec 32 := BitVec.ofNat 32 (i 0).val
  let c2_i32 : BitVec 32 := 2#32
  let v0 : BitVec 32 := Scalar.remsi arg0 c2_i32
  let c1_i32 : BitVec 32 := 1#32
  let v4 : BitVec 1 := Scalar.cmpi .eq v0 c1_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_4 : BitVec 32 := 0#32
  let c17_i32 : BitVec 32 := 17#32
  let v11 : BitVec 32 := Scalar.addi c0_i32_4 c17_i32
  let c1_i32_5 : BitVec 32 := 1#32
  ⟨c0_i32_4, v11, c1_i32_5⟩
def k0_off3 (k0_t2 : Fin k0_t2_loop.trips) : Fin 2 → Nat :=
  let c0_i32_4 : BitVec 32 := 0#32
  let c1_i32_5 : BitVec 32 := 1#32
  let arg8 : BitVec 32 := Scf.iv c0_i32_4 c1_i32_5 k0_t2
  let c16_i32 : BitVec 32 := 16#32
  let v16 : BitVec 32 := Scalar.remsi arg8 c16_i32
  let c640_i32 : BitVec 32 := 640#32
  let v19 : BitVec 32 := Scalar.muli v16 c640_i32
  let v20 : Index := Scalar.indexCast v19
  let c0_11 : Index := 0#32
  ![v20.toNat, 0]
def k0_off4 (k0_t2 : Fin k0_t2_loop.trips) : Fin 2 → Nat :=
  let c0_14 : Index := 0#32
  let c0_i32_4 : BitVec 32 := 0#32
  let c1_i32_5 : BitVec 32 := 1#32
  let arg8 : BitVec 32 := Scf.iv c0_i32_4 c1_i32_5 k0_t2
  let c16_i32 : BitVec 32 := 16#32
  let v16 : BitVec 32 := Scalar.remsi arg8 c16_i32
  let c640_i32_13 : BitVec 32 := 640#32
  let v24 : BitVec 32 := Scalar.muli v16 c640_i32_13
  let v25 : Index := Scalar.indexCast v24
  ![0, v25.toNat]
def k0_cond2 (i : grid0.Coords) : BitVec 1 :=
  let arg0 : BitVec 32 := BitVec.ofNat 32 (i 0).val
  let c0_i32_7 : BitVec 32 := 0#32
  let v13 : BitVec 1 := Scalar.cmpi .sgt arg0 c0_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg0 : BitVec 32 := BitVec.ofNat 32 (i 0).val
  let c0_i32_7 : BitVec 32 := 0#32
  let v13 : BitVec 1 := Scalar.cmpi .sgt arg0 c0_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10240x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x10240 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8192x1024 : Shape := ⟨2, ![8192, 1024]⟩
abbrev S10240x1024 : Shape := ⟨2, ![10240, 1024]⟩
abbrev S1024x10240 : Shape := ⟨2, ![1024, 10240]⟩
abbrev S8192x10240 : Shape := ⟨2, ![8192, 10240]⟩
abbrev S_ : Shape := ⟨0, ![]⟩
abbrev S8192x512 : Shape := ⟨2, ![8192, 512]⟩
abbrev S8192 : Shape := ⟨1, ![8192]⟩
abbrev S8192x1 : Shape := ⟨2, ![8192, 1]⟩
abbrev S8192x512x1 : Shape := ⟨3, ![8192, 512, 1]⟩
abbrev S8192x512x2 : Shape := ⟨3, ![8192, 512, 2]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S10240x1024, .f32⟩
  | .hbm, ⟨2, _⟩ => ⟨S1024x10240, .f32⟩
  | .hbm, ⟨3, _⟩ => ⟨S8192x10240, .f32⟩
  | .hbm, ⟨4, _⟩ => ⟨S_, .f32⟩
  | .hbm, ⟨5, _⟩ => ⟨S8192x10240, .f32⟩
  | .hbm, ⟨6, _⟩ => ⟨S8192x10240, .f32⟩
  | .hbm, ⟨7, _⟩ => ⟨S8192x512, .f32⟩
  | .hbm, ⟨8, _⟩ => ⟨S8192x512, .i32⟩
  | .hbm, ⟨9, _⟩ => ⟨S8192, .i32⟩
  | .hbm, ⟨10, _⟩ => ⟨S8192x1, .i32⟩
  | .hbm, ⟨11, _⟩ => ⟨S_, .f32⟩
  | .hbm, ⟨12, _⟩ => ⟨S8192x10240, .f32⟩
  | .hbm, ⟨13, _⟩ => ⟨S_, .i32⟩
  | .hbm, ⟨14, _⟩ => ⟨S8192x1, .i32⟩
  | .hbm, ⟨15, _⟩ => ⟨S8192x1, .i1⟩
  | .hbm, ⟨16, _⟩ => ⟨S_, .i32⟩
  | .hbm, ⟨17, _⟩ => ⟨S8192x1, .i32⟩
  | .hbm, ⟨18, _⟩ => ⟨S8192x1, .i32⟩
  | .hbm, ⟨19, _⟩ => ⟨S8192x1, .i32⟩
  | .hbm, ⟨20, _⟩ => ⟨S_, .i32⟩
  | .hbm, ⟨21, _⟩ => ⟨S8192x512, .i32⟩
  | .hbm, ⟨22, _⟩ => ⟨S8192x512, .i1⟩
  | .hbm, ⟨23, _⟩ => ⟨S_, .i32⟩
  | .hbm, ⟨24, _⟩ => ⟨S8192x512, .i32⟩
  | .hbm, ⟨25, _⟩ => ⟨S8192x512, .i32⟩
  | .hbm, ⟨26, _⟩ => ⟨S8192x512, .i32⟩
  | .hbm, ⟨27, _⟩ => ⟨S8192x512, .i32⟩
  | .hbm, ⟨28, _⟩ => ⟨S8192x512x1, .i32⟩
  | .hbm, ⟨29, _⟩ => ⟨S8192x512x1, .i32⟩
  | .hbm, ⟨30, _⟩ => ⟨S8192x512x2, .i32⟩
  | .hbm, ⟨31, _⟩ => ⟨S8192x10240, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Proof.KI.Loop.lean ====
module

public import proofs.«01_k».proof.Proof.K.Run
public import proofs.«01_k».proof.Proof.Gen.KernelIdeal.Loops
public import proofs.«01_k».proof.Proof.Gen.KernelIdeal.Frame
public import Idealize.ShloMosaic.Lib.WritesUnit
public import Idealize.ShloMosaic.Lib.VecWindow
public import Idealize.ShloMosaic.Lib.ValueIdxCore
public import Idealize.ShloMosaic.Lib.Pipeline.Value

/-! What the kernel's counted loop leaves: the chunks of the product in the scratch it writes, the running row
maximum, and the interval the bisection has reached. -/

@[expose] public section

set_option maxRecDepth 16384

noncomputable section

namespace Cert.KernelIdeal.Fused

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI Idealize.SL.Sem

variable {F : FTy → Type} [FloatOps F]

/-- Both loops run seventeen trips. -/
theorem trips17 : k0_t1_loop.trips = 17 := by decide +kernel

/-- The 640 rows of the weights that trip `k` multiplies by: chunk `k mod 16`. -/
def wch (w : Vec F S10240x1024 .bf16) (k : ℕ) : Vec F S640x1024 .bf16 :=
  fun z => w (ix2 ⟨640 * (k % 16) + (z 0).val, by
    have h1 : (z 0).val < 640 := (z 0).isLt
    have h2 : k % 16 < 16 := Nat.mod_lt _ (by decide)
    omega⟩ (z 1))

/-- The whole product block: column `j` comes from chunk `j / 640`. -/
def eFull (x : Vec F S256x1024 .bf16) (w : Vec F S10240x1024 .bf16) : Vec F S256x10240 .f32 :=
  fun y => k0_pay8 x (wch w ((y 1).val / 640)) (ix2 (y 0) ⟨(y 1).val % 640, Nat.mod_lt _ (by decide)⟩)

/-- The row maximum before trip `k`. -/
def mAt (x : Vec F S256x1024 .bf16) (w : Vec F S10240x1024 .bf16) : ℕ → Vec F S256x1 .f32
  | 0 => k0_pay1
  | k + 1 => if h : k < k0_t1_loop.trips then k0_pay9 0#32 1#32 ⟨k, h⟩ x (wch w k) (mAt x w k) else mAt x w k

/-- The bisection's interval `(lo, hi)` before trip `k`, over the finished block `e`. -/
def bis (e : Vec F S256x10240 .f32) (init : FVec F S256x1 .f32 × FVec F S256x1 .f32) :
    ℕ → FVec F S256x1 .f32 × FVec F S256x1 .f32
  | 0 => init
  | k + 1 => (k0_pay12 (bis e init k).1 (bis e init k).2 e, k0_pay13 (bis e init k).1 (bis e init k).2 e)

/-- A load of the chunk's rectangle is the chunk. -/
theorem ld_wch (w : Vec F S10240x1024 .bf16) (k : ℕ) (off : Fin 2 → ℕ) (h : off = ![640 * (k % 16), 0])
    (inb : ∀ a, off a + S640x1024.size a ≤ S10240x1024.size a) :
    View.ld w (Rect.unit (s := S10240x1024) off S640x1024.size inb) = wch w k := by
  subst h
  funext z
  refine congrArg w (funext fun a => Fin.ext ?_)
  match a with
  | ⟨0, _⟩ => exact congrArg (640 * (k % 16) + ·) (Nat.one_mul _)
  | ⟨1, _⟩ => exact (congrArg (0 + ·) (Nat.one_mul _)).trans (Nat.zero_add _)

/-- Stores of one chunk per trip, at the chunks' columns, leave each column its chunk's value, once the chunk's trip
is past; the trip that meets a chunk again stores the same value. -/
theorem read_chunks {sp : Space} (v : View sig .tc sp S256x10240 .f32) (G : v.ty.Contents (Elt F))
    (L : ℕ → List (View.Piece (Elt F) S256x10240 .f32)) (ch : ℕ → Vec F S256x640 .f32) (n : ℕ)
    (hL : ∀ k, k < n → ∃ (off : Fin 2 → ℕ) (inb : ∀ a, off a + S256x640.size a ≤ S256x10240.size a),
      off = ![0, 640 * (k % 16)] ∧
      L (k + 1) = (⟨Rect.unit (s := S256x10240) off S256x640.size inb, ch (k % 16)⟩ : View.Piece (Elt F) S256x10240 .f32) :: L k) :
    ∀ k, k ≤ n → ∀ y : S256x10240.Idx, (y 1).val / 640 < k →
      v.read (Elt F) (v.writes (Elt F) G (L k)) y
        = ch ((y 1).val / 640) (ix2 (y 0) ⟨(y 1).val % 640, Nat.mod_lt _ (by decide)⟩) := by
  intro k
  induction k with
  | zero => intro _ y hy; omega
  | succ k ih =>
    intro hk y hy
    obtain ⟨off, inb, hoff, hcons⟩ := hL k (by omega)
    have hy1 : (y 1).val < 10240 := (y 1).isLt
    rw [hcons]
    by_cases hc : (y 1).val / 640 = k % 16
    · rw [← hc]
      refine View.read_writes_cons_unit_of_mem v G inb _ (L k) y _ hoff fun a => ?_
      match a with
      | ⟨0, _⟩ => exact (Nat.zero_add _).symm
      | ⟨1, _⟩ =>
        show (y 1).val = 640 * (k % 16) + (y 1).val % 640
        omega
    · refine (View.read_writes_cons_unit_of_not_mem v G inb _ (L k) y hoff 1 ?_).trans (ih (by omega) y (by omega))
      show (y 1).val < 640 * (k % 16) ∨ 640 * (k % 16) + 640 ≤ (y 1).val
      omega

/-- Trip 0 sets the row maximum afresh: what the scratch held does not matter. -/
theorem pay9_zero (h : 0 < k0_t1_loop.trips) (x : Vec F S256x1024 .bf16) (c : Vec F S640x1024 .bf16) (v v' : Vec F S256x1 .f32) :
    k0_pay9 0#32 1#32 ⟨0, h⟩ x c v = k0_pay9 0#32 1#32 ⟨0, h⟩ x c v' := rfl

/-! ## The Even points' loop -/

section Even

/-- What one trip stores, spelled out: the chunk's product and the new row maximum. -/
theorem tripL_t1 (𝒱 : Variants) (c : Dev nD) (bd : Option 𝒱.V) (i : grid0.Coords) (arg1 : Memref sig .tc .vmem S256x1024 .bf16) (harg1 : arg1.IsWhole) (arg2 : Memref sig .tc .vmem S10240x1024 .bf16) (harg2 : arg2.IsWhole) (arg3 : Memref sig .tc .vmem S256x10240 .f32) (harg3 : arg3.IsWhole) (arg4 : Memref sig .tc .vmem S256x10240 .f32) (harg4 : arg4.IsWhole) (arg5 : Memref sig .tc .vmem S256x10240 .f32) (harg5 : arg5.IsWhole) (arg6 : Memref sig .tc .vmem S256x1 .f32) (harg6 : arg6.IsWhole) (arg7 : Memref sig .tc .vmem S256x1 .f32) (harg7 : arg7.IsWhole) (k0_h1 : k0_cond1 i = 1#1) (X1 : BufTy.Contents (Elt F) arg1.view.ty) (X2 : BufTy.Contents (Elt F) arg2.view.ty) (XR : BufTy.Contents (Elt F) arg5.view.ty) (k : Fin k0_t1_loop.trips)
    (acc : FVec F S256x1 .f32 × FVec F S256x1 .f32) (g : BufTy.Contents (Elt F) arg4.view.ty) (g' : BufTy.Contents (Elt F) arg6.view.ty) :
    tripL_k0_t1 𝒱 c bd i arg1 harg1 arg2 harg2 arg3 harg3 arg4 harg4 arg5 harg5 arg6 harg6 arg7 harg7 k0_h1 X1 X2 XR k acc g g'
      = ([⟨Rect.unit (s := S256x10240) (k0_off2 k) S256x640.size (k0_off2_inb i k k0_h1),
            k0_pay8 (arg1.view.readAt (Elt F) (Rect.unit (s := S256x1024) ![0, 0] S256x1024.size inb_S256x1024_S256x1024_0_0).toLoadRect X1)
              (arg2.view.readAt (Elt F) (Rect.unit (s := S10240x1024) (k0_off1 k) S640x1024.size (k0_off1_inb i k k0_h1)).toLoadRect X2)⟩],
         [⟨Rect.unit (s := S256x1) ![0, 0] S256x1.size inb_S256x1_S256x1_0_0,
            k0_pay9 0#32 1#32 k (arg1.view.readAt (Elt F) (Rect.unit (s := S256x1024) ![0, 0] S256x1024.size inb_S256x1024_S256x1024_0_0).toLoadRect X1)
              (arg2.view.readAt (Elt F) (Rect.unit (s := S10240x1024) (k0_off1 k) S640x1024.size (k0_off1_inb i k k0_h1)).toLoadRect X2)
              (arg6.view.readAt (Elt F) (Rect.unit (s := S256x1) ![0, 0] S256x1.size inb_S256x1_S256x1_0_0).toLoadRect g')⟩]) := by
  unfold tripL_k0_t1 trip_k0_t1
  rfl

/-- What one trip carries on, spelled out: the bisection's next interval. -/
theorem tripR_t1 (𝒱 : Variants) (c : Dev nD) (bd : Option 𝒱.V) (i : grid0.Coords) (arg1 : Memref sig .tc .vmem S256x1024 .bf16) (harg1 : arg1.IsWhole) (arg2 : Memref sig .tc .vmem S10240x1024 .bf16) (harg2 : arg2.IsWhole) (arg3 : Memref sig .tc .vmem S256x10240 .f32) (harg3 : arg3.IsWhole) (arg4 : Memref sig .tc .vmem S256x10240 .f32) (harg4 : arg4.IsWhole) (arg5 : Memref sig .tc .vmem S256x10240 .f32) (harg5 : arg5.IsWhole) (arg6 : Memref sig .tc .vmem S256x1 .f32) (harg6 : arg6.IsWhole) (arg7 : Memref sig .tc .vmem S256x1 .f32) (harg7 : arg7.IsWhole) (k0_h1 : k0_cond1 i = 1#1) (X1 : BufTy.Contents (Elt F) arg1.view.ty) (X2 : BufTy.Contents (Elt F) arg2.view.ty) (XR : BufTy.Contents (Elt F) arg5.view.ty) (k : Fin k0_t1_loop.trips)
    (acc : FVec F S256x1 .f32 × FVec F S256x1 .f32) (g : BufTy.Contents (Elt F) arg4.view.ty) (g' : BufTy.Contents (Elt F) arg6.view.ty) :
    tripR_k0_t1 𝒱 c bd i arg1 harg1 arg2 harg2 arg3 harg3 arg4 harg4 arg5 harg5 arg6 harg6 arg7 harg7 k0_h1 X1 X2 XR k acc g g'
      = (k0_pay12 acc.1 acc.2 (arg5.view.readAt (Elt F) (Rect.unit (s := S256x10240) ![0, 0] S256x10240.size inb_S256x10240_S256x10240_0_0).toLoadRect XR),
         k0_pay13 acc.1 acc.2 (arg5.view.readAt (Elt F) (Rect.unit (s := S256x10240) ![0, 0] S256x10240.size inb_S256x10240_S256x10240_0_0).toLoadRect XR)) := by
  unfold tripR_k0_t1 trip_k0_t1
  rfl

/-- One more trip's state over the trip before, every load read out. -/
theorem st_t1_next (𝒱 : Variants) (c : Dev nD) (bd : Option 𝒱.V) (i : grid0.Coords) (arg1 : Memref sig .tc .vmem S256x1024 .bf16) (harg1 : arg1.IsWhole) (arg2 : Memref sig .tc .vmem S10240x1024 .bf16) (harg2 : arg2.IsWhole) (arg3 : Memref sig .tc .vmem S256x10240 .f32) (harg3 : arg3.IsWhole) (arg4 : Memref sig .tc .vmem S256x10240 .f32) (harg4 : arg4.IsWhole) (arg5 : Memref sig .tc .vmem S256x10240 .f32) (harg5 : arg5.IsWhole) (arg6 : Memref sig .tc .vmem S256x1 .f32) (harg6 : arg6.IsWhole) (arg7 : Memref sig .tc .vmem S256x1 .f32) (harg7 : arg7.IsWhole) (k0_h1 : k0_cond1 i = 1#1) (X1 : BufTy.Contents (Elt F) arg1.view.ty) (X2 : BufTy.Contents (Elt F) arg2.view.ty) (XR : BufTy.Contents (Elt F) arg5.view.ty) (G : BufTy.Contents (Elt F) arg4.view.ty) (H : BufTy.Contents (Elt F) arg6.view.ty) (init : FVec F S256x1 .f32 × FVec F S256x1 .f32) (x : Vec F S256x1024 .bf16) (w : Vec F S10240x1024 .bf16) (e : Vec F S256x10240 .f32)
    (hx : arg1.view.read (Elt F) X1 = x) (hw : arg2.view.read (Elt F) X2 = w) (he : arg5.view.read (Elt F) XR = e)
    (k : ℕ) (hk : k < k0_t1_loop.trips) :
    st_k0_t1 𝒱 c bd i arg1 harg1 arg2 harg2 arg3 harg3 arg4 harg4 arg5 harg5 arg6 harg6 arg7 harg7 k0_h1 X1 X2 XR G H init (k + 1)
      = ((k0_pay12 (st_k0_t1 𝒱 c bd i arg1 harg1 arg2 harg2 arg3 harg3 arg4 harg4 arg5 harg5 arg6 harg6 arg7 harg7 k0_h1 X1 X2 XR G H init k).1.1 (st_k0_t1 𝒱 c bd i arg1 harg1 arg2 harg2 arg3 harg3 arg4 harg4 arg5 harg5 arg6 harg6 arg7 harg7 k0_h1 X1 X2 XR G H init k).1.2 e, k0_pay13 (st_k0_t1 𝒱 c bd i arg1 harg1 arg2 harg2 arg3 harg3 arg4 harg4 arg5 harg5 arg6 harg6 arg7 harg7 k0_h1 X1 X2 XR G H init k).1.1 (st_k0_t1 𝒱 c bd i arg1 harg1 arg2 harg2 arg3 harg3 arg4 harg4 arg5 harg5 arg6 harg6 arg7 harg7 k0_h1 X1 X2 XR G H init k).1.2 e),
         (⟨Rect.unit (s := S256x10240) (k0_off2 ⟨k, hk⟩) S256x640.size (k0_off2_inb i ⟨k, hk⟩ k0_h1), k0_pay8 x (wch w k)⟩ : View.Piece (Elt F) S256x10240 .f32) :: (st_k0_t1 𝒱 c bd i arg1 harg1 arg2 harg2 arg3 harg3 arg4 harg4 arg5 harg5 arg6 harg6 arg7 harg7 k0_h1 X1 X2 XR G H init k).2.1,
         (⟨Rect.unit (s := S256x1) ![0, 0] S256x1.size inb_S256x1_S256x1_0_0,
            k0_pay9 0#32 1#32 ⟨k, hk⟩ x (wch w k) (arg6.view.read (Elt F) (arg6.view.writes (Elt F) H (st_k0_t1 𝒱 c bd i arg1 harg1 arg2 harg2 arg3 harg3 arg4 harg4 arg5 harg5 arg6 harg6 arg7 harg7 k0_h1 X1 X2 XR G H init k).2.2))⟩ : View.Piece (Elt F) S256x1 .f32) :: (st_k0_t1 𝒱 c bd i arg1 harg1 arg2 harg2 arg3 harg3 arg4 harg4 arg5 harg5 arg6 harg6 arg7 harg7 k0_h1 X1 X2 XR G H init k).2.2) := by
  subst hx hw he
  rw [st_k0_t1_succ 𝒱 c bd i arg1 harg1 arg2 harg2 arg3 harg3 arg4 harg4 arg5 harg5 arg6 harg6 arg7 harg7 k0_h1 X1 X2 XR G H init ⟨k, hk⟩, tripR_t1, tripL_t1]
  have e1 : arg1.view.readAt (Elt F) (Rect.unit (s := S256x1024) ![0, 0] S256x1024.size inb_S256x1024_S256x1024_0_0).toLoadRect X1
      = arg1.view.read (Elt F) X1 := View.ld_unit_zero (by decide) _ _
  have e2 : arg2.view.readAt (Elt F) (Rect.unit (s := S10240x1024) (k0_off1 ⟨k, hk⟩) S640x1024.size (k0_off1_inb i ⟨k, hk⟩ k0_h1)).toLoadRect X2
      = wch (arg2.view.read (Elt F) X2) k := ld_wch _ k _ (k0_off1_eq ⟨k, hk⟩) _
  have e3 : arg5.view.readAt (Elt F) (Rect.unit (s := S256x10240) ![0, 0] S256x10240.size inb_S256x10240_S256x10240_0_0).toLoadRect XR
      = arg5.view.read (Elt F) XR := View.ld_unit_zero (by decide) _ _
  have e4 : ∀ g, arg6.view.readAt (Elt F) (Rect.unit (s := S256x1) ![0, 0] S256x1.size inb_S256x1_S256x1_0_0).toLoadRect g
      = arg6.view.read (Elt F) g := fun g => View.ld_unit_zero (by decide) _ _
  rw [e1, e2, e3, e4]
  rfl

/-- After the seventeen trips: the interval, the whole product and its row maxima. -/
theorem after_t1 (𝒱 : Variants) (c : Dev nD) (bd : Option 𝒱.V) (i : grid0.Coords) (arg1 : Memref sig .tc .vmem S256x1024 .bf16) (harg1 : arg1.IsWhole) (arg2 : Memref sig .tc .vmem S10240x1024 .bf16) (harg2 : arg2.IsWhole) (arg3 : Memref sig .tc .vmem S256x10240 .f32) (harg3 : arg3.IsWhole) (arg4 : Memref sig .tc .vmem S256x10240 .f32) (harg4 : arg4.IsWhole) (arg5 : Memref sig .tc .vmem S256x10240 .f32) (harg5 : arg5.IsWhole) (arg6 : Memref sig .tc .vmem S256x1 .f32) (harg6 : arg6.IsWhole) (arg7 : Memref sig .tc .vmem S256x1 .f32) (harg7 : arg7.IsWhole) (k0_h1 : k0_cond1 i = 1#1) (X1 : BufTy.Contents (Elt F) arg1.view.ty) (X2 : BufTy.Contents (Elt F) arg2.view.ty) (XR : BufTy.Contents (Elt F) arg5.view.ty) (G : BufTy.Contents (Elt F) arg4.view.ty) (H : BufTy.Contents (Elt F) arg6.view.ty) (init : FVec F S256x1 .f32 × FVec F S256x1 .f32) (x : Vec F S256x1024 .bf16) (w : Vec F S10240x1024 .bf16) (e : Vec F S256x10240 .f32)
    (hx : arg1.view.read (Elt F) X1 = x) (hw : arg2.view.read (Elt F) X2 = w) (he : arg5.view.read (Elt F) XR = e) :
    (st_k0_t1 𝒱 c bd i arg1 harg1 arg2 harg2 arg3 harg3 arg4 harg4 arg5 harg5 arg6 harg6 arg7 harg7 k0_h1 X1 X2 XR G H init k0_t1_loop.trips).1 = bis e init 17
    ∧ arg4.view.read (Elt F) (arg4.view.writes (Elt F) G (st_k0_t1 𝒱 c bd i arg1 harg1 arg2 harg2 arg3 harg3 arg4 harg4 arg5 harg5 arg6 harg6 arg7 harg7 k0_h1 X1 X2 XR G H init k0_t1_loop.trips).2.1) = eFull x w
    ∧ arg6.view.read (Elt F) (arg6.view.writes (Elt F) H (st_k0_t1 𝒱 c bd i arg1 harg1 arg2 harg2 arg3 harg3 arg4 harg4 arg5 harg5 arg6 harg6 arg7 harg7 k0_h1 X1 X2 XR G H init k0_t1_loop.trips).2.2) = mAt x w 17 := by
  have ht : k0_t1_loop.trips = 17 := trips17
  have hn := st_t1_next 𝒱 c bd i arg1 harg1 arg2 harg2 arg3 harg3 arg4 harg4 arg5 harg5 arg6 harg6 arg7 harg7 k0_h1 X1 X2 XR G H init x w e hx hw he
  refine ⟨?_, ?_, ?_⟩
  · have hb : ∀ k, k ≤ 17 → (st_k0_t1 𝒱 c bd i arg1 harg1 arg2 harg2 arg3 harg3 arg4 harg4 arg5 harg5 arg6 harg6 arg7 harg7 k0_h1 X1 X2 XR G H init k).1 = bis e init k := by
      intro k
      induction k with
      | zero => intro _; rfl
      | succ k ih =>
        intro hk
        rw [hn k (by omega), ih (by omega)]
        rfl
    rw [ht]; exact hb 17 (by omega)
  · funext y
    have hy1 : (y 1).val < 10240 := (y 1).isLt
    refine read_chunks arg4.view G (fun k => (st_k0_t1 𝒱 c bd i arg1 harg1 arg2 harg2 arg3 harg3 arg4 harg4 arg5 harg5 arg6 harg6 arg7 harg7 k0_h1 X1 X2 XR G H init k).2.1) (fun k => k0_pay8 x (wch w k)) 17 ?_ k0_t1_loop.trips (by omega) y (by omega)
    intro k hk
    refine ⟨k0_off2 ⟨k, by omega⟩, k0_off2_inb i ⟨k, by omega⟩ k0_h1, k0_off2_eq ⟨k, by omega⟩, ?_⟩
    have e1 : wch w (k % 16) = wch w k := by unfold wch; simp only [Nat.mod_mod]
    show (st_k0_t1 𝒱 c bd i arg1 harg1 arg2 harg2 arg3 harg3 arg4 harg4 arg5 harg5 arg6 harg6 arg7 harg7 k0_h1 X1 X2 XR G H init (k + 1)).2.1 = _
    rw [hn k (by omega), e1]
  · have hm : ∀ k, k < 17 →
        arg6.view.read (Elt F) (arg6.view.writes (Elt F) H (st_k0_t1 𝒱 c bd i arg1 harg1 arg2 harg2 arg3 harg3 arg4 harg4 arg5 harg5 arg6 harg6 arg7 harg7 k0_h1 X1 X2 XR G H init (k + 1)).2.2) = mAt x w (k + 1) := by
      intro k
      induction k with
      | zero =>
        intro hk
        rw [hn 0 (by omega), View.read_writes_full]
        rw [mAt, dif_pos (by decide +kernel)]
        exact pay9_zero _ x (wch w 0) _ _
      | succ k ih =>
        intro hk
        rw [hn (k + 1) (by omega), View.read_writes_full, ih (by omega)]
        rw [mAt.eq_2 x w (k + 1), dif_pos (by have := trips17; omega)]
    rw [ht]; exact hm 16 (by omega)

end Even

/-! ## The Odd points' loop -/

section Odd

/-- What one trip stores, spelled out: the chunk's product and the new row maximum. -/
theorem tripL_t2 (𝒱 : Variants) (c : Dev nD) (bd : Option 𝒱.V) (i : grid0.Coords) (arg1 : Memref sig .tc .vmem S256x1024 .bf16) (harg1 : arg1.IsWhole) (arg2 : Memref sig .tc .vmem S10240x1024 .bf16) (harg2 : arg2.IsWhole) (arg3 : Memref sig .tc .vmem S256x10240 .f32) (harg3 : arg3.IsWhole) (arg4 : Memref sig .tc .vmem S256x10240 .f32) (harg4 : arg4.IsWhole) (arg5 : Memref sig .tc .vmem S256x10240 .f32) (harg5 : arg5.IsWhole) (arg6 : Memref sig .tc .vmem S256x1 .f32) (harg6 : arg6.IsWhole) (arg7 : Memref sig .tc .vmem S256x1 .f32) (harg7 : arg7.IsWhole) (k0_h3 : k0_cond3 i = 1#1) (X1 : BufTy.Contents (Elt F) arg1.view.ty) (X2 : BufTy.Contents (Elt F) arg2.view.ty) (XR : BufTy.Contents (Elt F) arg4.view.ty) (k : Fin k0_t2_loop.trips)
    (acc : FVec F S256x1 .f32 × FVec F S256x1 .f32) (g : BufTy.Contents (Elt F) arg5.view.ty) (g' : BufTy.Contents (Elt F) arg7.view.ty) :
    tripL_k0_t2 𝒱 c bd i arg1 harg1 arg2 harg2 arg3 harg3 arg4 harg4 arg5 harg5 arg6 harg6 arg7 harg7 k0_h3 X1 X2 XR k acc g g'
      = ([⟨Rect.unit (s := S256x10240) (k0_off4 k) S256x640.size (k0_off4_inb i k k0_h3),
            k0_pay15 (arg1.view.readAt (Elt F) (Rect.unit (s := S256x1024) ![0, 0] S256x1024.size inb_S256x1024_S256x1024_0_0).toLoadRect X1)
              (arg2.view.readAt (Elt F) (Rect.unit (s := S10240x1024) (k0_off3 k) S640x1024.size (k0_off3_inb i k k0_h3)).toLoadRect X2)⟩],
         [⟨Rect.unit (s := S256x1) ![0, 0] S256x1.size inb_S256x1_S256x1_0_0,
            k0_pay16 0#32 1#32 k (arg1.view.readAt (Elt F) (Rect.unit (s := S256x1024) ![0, 0] S256x1024.size inb_S256x1024_S256x1024_0_0).toLoadRect X1)
              (arg2.view.readAt (Elt F) (Rect.unit (s := S10240x1024) (k0_off3 k) S640x1024.size (k0_off3_inb i k k0_h3)).toLoadRect X2)
              (arg7.view.readAt (Elt F) (Rect.unit (s := S256x1) ![0, 0] S256x1.size inb_S256x1_S256x1_0_0).toLoadRect g')⟩]) := by
  unfold tripL_k0_t2 trip_k0_t2
  rfl

/-- What one trip carries on, spelled out: the bisection's next interval. -/
theorem tripR_t2 (𝒱 : Variants) (c : Dev nD) (bd : Option 𝒱.V) (i : grid0.Coords) (arg1 : Memref sig .tc .vmem S256x1024 .bf16) (harg1 : arg1.IsWhole) (arg2 : Memref sig .tc .vmem S10240x1024 .bf16) (harg2 : arg2.IsWhole) (arg3 : Memref sig .tc .vmem S256x10240 .f32) (harg3 : arg3.IsWhole) (arg4 : Memref sig .tc .vmem S256x10240 .f32) (harg4 : arg4.IsWhole) (arg5 : Memref sig .tc .vmem S256x10240 .f32) (harg5 : arg5.IsWhole) (arg6 : Memref sig .tc .vmem S256x1 .f32) (harg6 : arg6.IsWhole) (arg7 : Memref sig .tc .vmem S256x1 .f32) (harg7 : arg7.IsWhole) (k0_h3 : k0_cond3 i = 1#1) (X1 : BufTy.Contents (Elt F) arg1.view.ty) (X2 : BufTy.Contents (Elt F) arg2.view.ty) (XR : BufTy.Contents (Elt F) arg4.view.ty) (k : Fin k0_t2_loop.trips)
    (acc : FVec F S256x1 .f32 × FVec F S256x1 .f32) (g : BufTy.Contents (Elt F) arg5.view.ty) (g' : BufTy.Contents (Elt F) arg7.view.ty) :
    tripR_k0_t2 𝒱 c bd i arg1 harg1 arg2 harg2 arg3 harg3 arg4 harg4 arg5 harg5 arg6 harg6 arg7 harg7 k0_h3 X1 X2 XR k acc g g'
      = (k0_pay19 acc.1 acc.2 (arg4.view.readAt (Elt F) (Rect.unit (s := S256x10240) ![0, 0] S256x10240.size inb_S256x10240_S256x10240_0_0).toLoadRect XR),
         k0_pay20 acc.1 acc.2 (arg4.view.readAt (Elt F) (Rect.unit (s := S256x10240) ![0, 0] S256x10240.size inb_S256x10240_S256x10240_0_0).toLoadRect XR)) := by
  unfold tripR_k0_t2 trip_k0_t2
  rfl

/-- One more trip's state over the trip before, every load read out. -/
theorem st_t2_next (𝒱 : Variants) (c : Dev nD) (bd : Option 𝒱.V) (i : grid0.Coords) (arg1 : Memref sig .tc .vmem S256x1024 .bf16) (harg1 : arg1.IsWhole) (arg2 : Memref sig .tc .vmem S10240x1024 .bf16) (harg2 : arg2.IsWhole) (arg3 : Memref sig .tc .vmem S256x10240 .f32) (harg3 : arg3.IsWhole) (arg4 : Memref sig .tc .vmem S256x10240 .f32) (harg4 : arg4.IsWhole) (arg5 : Memref sig .tc .vmem S256x10240 .f32) (harg5 : arg5.IsWhole) (arg6 : Memref sig .tc .vmem S256x1 .f32) (harg6 : arg6.IsWhole) (arg7 : Memref sig .tc .vmem S256x1 .f32) (harg7 : arg7.IsWhole) (k0_h3 : k0_cond3 i = 1#1) (X1 : BufTy.Contents (Elt F) arg1.view.ty) (X2 : BufTy.Contents (Elt F) arg2.view.ty) (XR : BufTy.Contents (Elt F) arg4.view.ty) (G : BufTy.Contents (Elt F) arg5.view.ty) (H : BufTy.Contents (Elt F) arg7.view.ty) (init : FVec F S256x1 .f32 × FVec F S256x1 .f32) (x : Vec F S256x1024 .bf16) (w : Vec F S10240x1024 .bf16) (e : Vec F S256x10240 .f32)
    (hx : arg1.view.read (Elt F) X1 = x) (hw : arg2.view.read (Elt F) X2 = w) (he : arg4.view.read (Elt F) XR = e)
    (k : ℕ) (hk : k < k0_t2_loop.trips) :
    st_k0_t2 𝒱 c bd i arg1 harg1 arg2 harg2 arg3 harg3 arg4 harg4 arg5 harg5 arg6 harg6 arg7 harg7 k0_h3 X1 X2 XR G H init (k + 1)
      = ((k0_pay19 (st_k0_t2 𝒱 c bd i arg1 harg1 arg2 harg2 arg3 harg3 arg4 harg4 arg5 harg5 arg6 harg6 arg7 harg7 k0_h3 X1 X2 XR G H init k).1.1 (st_k0_t2 𝒱 c bd i arg1 harg1 arg2 harg2 arg3 harg3 arg4 harg4 arg5 harg5 arg6 harg6 arg7 harg7 k0_h3 X1 X2 XR G H init k).1.2 e, k0_pay20 (st_k0_t2 𝒱 c bd i arg1 harg1 arg2 harg2 arg3 harg3 arg4 harg4 arg5 harg5 arg6 harg6 arg7 harg7 k0_h3 X1 X2 XR G H init k).1.1 (st_k0_t2 𝒱 c bd i arg1 harg1 arg2 harg2 arg3 harg3 arg4 harg4 arg5 harg5 arg6 harg6 arg7 harg7 k0_h3 X1 X2 XR G H init k).1.2 e),
         (⟨Rect.unit (s := S256x10240) (k0_off4 ⟨k, hk⟩) S256x640.size (k0_off4_inb i ⟨k, hk⟩ k0_h3), k0_pay15 x (wch w k)⟩ : View.Piece (Elt F) S256x10240 .f32) :: (st_k0_t2 𝒱 c bd i arg1 harg1 arg2 harg2 arg3 harg3 arg4 harg4 arg5 harg5 arg6 harg6 arg7 harg7 k0_h3 X1 X2 XR G H init k).2.1,
         (⟨Rect.unit (s := S256x1) ![0, 0] S256x1.size inb_S256x1_S256x1_0_0,
            k0_pay16 0#32 1#32 ⟨k, hk⟩ x (wch w k) (arg7.view.read (Elt F) (arg7.view.writes (Elt F) H (st_k0_t2 𝒱 c bd i arg1 harg1 arg2 harg2 arg3 harg3 arg4 harg4 arg5 harg5 arg6 harg6 arg7 harg7 k0_h3 X1 X2 XR G H init k).2.2))⟩ : View.Piece (Elt F) S256x1 .f32) :: (st_k0_t2 𝒱 c bd i arg1 harg1 arg2 harg2 arg3 harg3 arg4 harg4 arg5 harg5 arg6 harg6 arg7 harg7 k0_h3 X1 X2 XR G H init k).2.2) := by
  subst hx hw he
  rw [st_k0_t2_succ 𝒱 c bd i arg1 harg1 arg2 harg2 arg3 harg3 arg4 harg4 arg5 harg5 arg6 harg6 arg7 harg7 k0_h3 X1 X2 XR G H init ⟨k, hk⟩, tripR_t2, tripL_t2]
  have e1 : arg1.view.readAt (Elt F) (Rect.unit (s := S256x1024) ![0, 0] S256x1024.size inb_S256x1024_S256x1024_0_0).toLoadRect X1
      = arg1.view.read (Elt F) X1 := View.ld_unit_zero (by decide) _ _
  have e2 : arg2.view.readAt (Elt F) (Rect.unit (s := S10240x1024) (k0_off3 ⟨k, hk⟩) S640x1024.size (k0_off3_inb i ⟨k, hk⟩ k0_h3)).toLoadRect X2
      = wch (arg2.view.read (Elt F) X2) k := ld_wch _ k _ (k0_off3_eq ⟨k, hk⟩) _
  have e3 : arg4.view.readAt (Elt F) (Rect.unit (s := S256x10240) ![0, 0] S256x10240.size inb_S256x10240_S256x10240_0_0).toLoadRect XR
      = arg4.view.read (Elt F) XR := View.ld_unit_zero (by decide) _ _
  have e4 : ∀ g, arg7.view.readAt (Elt F) (Rect.unit (s := S256x1) ![0, 0] S256x1.size inb_S256x1_S256x1_0_0).toLoadRect g
      = arg7.view.read (Elt F) g := fun g => View.ld_unit_zero (by decide) _ _
  rw [e1, e2, e3, e4]
  rfl

/-- After the seventeen trips: the interval, the whole product and its row maxima. -/
theorem after_t2 (𝒱 : Variants) (c : Dev nD) (bd : Option 𝒱.V) (i : grid0.Coords) (arg1 : Memref sig .tc .vmem S256x1024 .bf16) (harg1 : arg1.IsWhole) (arg2 : Memref sig .tc .vmem S10240x1024 .bf16) (harg2 : arg2.IsWhole) (arg3 : Memref sig .tc .vmem S256x10240 .f32) (harg3 : arg3.IsWhole) (arg4 : Memref sig .tc .vmem S256x10240 .f32) (harg4 : arg4.IsWhole) (arg5 : Memref sig .tc .vmem S256x10240 .f32) (harg5 : arg5.IsWhole) (arg6 : Memref sig .tc .vmem S256x1 .f32) (harg6 : arg6.IsWhole) (arg7 : Memref sig .tc .vmem S256x1 .f32) (harg7 : arg7.IsWhole) (k0_h3 : k0_cond3 i = 1#1) (X1 : BufTy.Contents (Elt F) arg1.view.ty) (X2 : BufTy.Contents (Elt F) arg2.view.ty) (XR : BufTy.Contents (Elt F) arg4.view.ty) (G : BufTy.Contents (Elt F) arg5.view.ty) (H : BufTy.Contents (Elt F) arg7.view.ty) (init : FVec F S256x1 .f32 × FVec F S256x1 .f32) (x : Vec F S256x1024 .bf16) (w : Vec F S10240x1024 .bf16) (e : Vec F S256x10240 .f32)
    (hx : arg1.view.read (Elt F) X1 = x) (hw : arg2.view.read (Elt F) X2 = w) (he : arg4.view.read (Elt F) XR = e) :
    (st_k0_t2 𝒱 c bd i arg1 harg1 arg2 harg2 arg3 harg3 arg4 harg4 arg5 harg5 arg6 harg6 arg7 harg7 k0_h3 X1 X2 XR G H init k0_t2_loop.trips).1 = bis e init 17
    ∧ arg5.view.read (Elt F) (arg5.view.writes (Elt F) G (st_k0_t2 𝒱 c bd i arg1 harg1 arg2 harg2 arg3 harg3 arg4 harg4 arg5 harg5 arg6 harg6 arg7 harg7 k0_h3 X1 X2 XR G H init k0_t2_loop.trips).2.1) = eFull x w
    ∧ arg7.view.read (Elt F) (arg7.view.writes (Elt F) H (st_k0_t2 𝒱 c bd i arg1 harg1 arg2 harg2 arg3 harg3 arg4 harg4 arg5 harg5 arg6 harg6 arg7 harg7 k0_h3 X1 X2 XR G H init k0_t2_loop.trips).2.2) = mAt x w 17 := by
  have ht : k0_t2_loop.trips = 17 := trips17
  have hn := st_t2_next 𝒱 c bd i arg1 harg1 arg2 harg2 arg3 harg3 arg4 harg4 arg5 harg5 arg6 harg6 arg7 harg7 k0_h3 X1 X2 XR G H init x w e hx hw he
  refine ⟨?_, ?_, ?_⟩
  · have hb : ∀ k, k ≤ 17 → (st_k0_t2 𝒱 c bd i arg1 harg1 arg2 harg2 arg3 harg3 arg4 harg4 arg5 harg5 arg6 harg6 arg7 harg7 k0_h3 X1 X2 XR G H init k).1 = bis e init k := by
      intro k
      induction k with
      | zero => intro _; rfl
      | succ k ih =>
        intro hk
        rw [hn k (by omega), ih (by omega)]
        rfl
    rw [ht]; exact hb 17 (by omega)
  · funext y
    have hy1 : (y 1).val < 10240 := (y 1).isLt
    refine read_chunks arg5.view G (fun k => (st_k0_t2 𝒱 c bd i arg1 harg1 arg2 harg2 arg3 harg3 arg4 harg4 arg5 harg5 arg6 harg6 arg7 harg7 k0_h3 X1 X2 XR G H init k).2.1) (fun k => k0_pay15 x (wch w k)) 17 ?_ k0_t2_loop.trips (by omega) y (by omega)
    intro k hk
    refine ⟨k0_off4 ⟨k, by omega⟩, k0_off4_inb i ⟨k, by omega⟩ k0_h3, k0_off4_eq ⟨k, by omega⟩, ?_⟩
    have e1 : wch w (k % 16) = wch w k := by unfold wch; simp only [Nat.mod_mod]
    show (st_k0_t2 𝒱 c bd i arg1 harg1 arg2 harg2 arg3 harg3 arg4 harg4 arg5 harg5 arg6 harg6 arg7 harg7 k0_h3 X1 X2 XR G H init (k + 1)).2.1 = _
    rw [hn k (by omega), e1]
  · have hm : ∀ k, k < 17 →
        arg7.view.read (Elt F) (arg7.view.writes (Elt F) H (st_k0_t2 𝒱 c bd i arg1 harg1 arg2 harg2 arg3 harg3 arg4 harg4 arg5 harg5 arg6 harg6 arg7 harg7 k0_h3 X1 X2 XR G H init (k + 1)).2.2) = mAt x w (k + 1) := by
      intro k
      induction k with
      | zero =>
        intro hk
        rw [hn 0 (by omega), View.read_writes_full]
        rw [mAt, dif_pos (by decide +kernel)]
        exact pay9_zero _ x (wch w 0) _ _
      | succ k ih =>
        intro hk
        rw [hn (k + 1) (by omega), View.read_writes_full, ih (by omega)]
        rw [mAt.eq_2 x w (k + 1), dif_pos (by have := trips17; omega)]
        rfl
    rw [ht]; exact hm 16 (by omega)

end Odd

end Cert.KernelIdeal.Fused

end
-- ==== Proof.KI.Body.lean ====
module

public import proofs.«01_k».proof.Proof.KI.Loop
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-! The kernel body run once, in its three cases: the first point, the other even points, the odd points. -/

@[expose] public section

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point stores for the block whose product is `e` and whose row maxima are `mm`. -/
def outOf (e : Vec F S256x10240 .f32) (mm : Vec F S256x1 .f32) : Vec F S256x10240 .f32 :=
  k0_pay3 (bis e (k0_pay1, k0_pay2 mm) 17).1 e

set_option maxHeartbeats 1000000 in
/-- An even point after the first: it multiplies the next block into the first pair of scratch buffers and selects in the block of the second pair. -/
theorem run_even (c : Dev nD) (i : grid0.Coords) (arg1 : Memref sig .tc .vmem S256x1024 .bf16) (harg1 : arg1.IsWhole) (arg2 : Memref sig .tc .vmem S10240x1024 .bf16) (harg2 : arg2.IsWhole) (arg3 : Memref sig .tc .vmem S256x10240 .f32) (harg3 : arg3.IsWhole) (arg4 : Memref sig .tc .vmem S256x10240 .f32) (harg4 : arg4.IsWhole) (arg5 : Memref sig .tc .vmem S256x10240 .f32) (harg5 : arg5.IsWhole) (arg6 : Memref sig .tc .vmem S256x1 .f32) (harg6 : arg6.IsWhole) (arg7 : Memref sig .tc .vmem S256x1 .f32) (harg7 : arg7.IsWhole) (h1 : k0_cond1 i = 1#1) (h2 : k0_cond2 i = 1#1) (h3 : ¬k0_cond3 i = 1#1)
    (x : Vec F S256x1024 .bf16) (w : Vec F S10240x1024 .bf16) (xi e : Vec F S256x10240 .f32) (mm : Vec F S256x1 .f32)
    (E : Set ℕ) (K : PUnit → sProp 𝕄) :
    iprop(owns (c : Thread nD τ) arg1 fullShare x ∗ owns (c : Thread nD τ) arg2 fullShare w ∗ owns (c : Thread nD τ) arg3 fullShare xi ∗ (∃ d, owns (c : Thread nD τ) arg4 fullShare d) ∗ owns (c : Thread nD τ) arg5 fullShare e ∗ (∃ d, owns (c : Thread nD τ) arg6 fullShare d) ∗ owns (c : Thread nD τ) arg7 fullShare mm
        ∗ (iprop(owns (c : Thread nD τ) arg1 fullShare x ∗ owns (c : Thread nD τ) arg2 fullShare w ∗ owns (c : Thread nD τ) arg3 fullShare (outOf e mm) ∗ owns (c : Thread nD τ) arg4 fullShare (eFull x w) ∗ owns (c : Thread nD τ) arg5 fullShare e ∗ owns (c : Thread nD τ) arg6 fullShare (mAt x w 17) ∗ owns (c : Thread nD τ) arg7 fullShare mm) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f1, %hf1, H1⟩, ⟨%f2, %hf2, H2⟩, ⟨%f3, %hf3, H3⟩, ⟨%d4, %f4, -, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3; obtain rfl := harg5.eq_unread hf5; obtain rfl := harg7.eq_unread hf7
  sl_exec (disch := first | sl_exact h1 | sl_exact h2 | sl_exact h3)
  have e7 : arg7.view.readAt (Elt F) (Rect.unit (s := S256x1) ![0, 0] S256x1.size inb_S256x1_S256x1_0_0).toLoadRect (harg7.unread mm) = mm :=
    (View.ld_unit_zero (by decide) _ _).trans (harg7.read_unread _)
  have e5 : arg5.view.readAt (Elt F) (Rect.unit (s := S256x10240) ![0, 0] S256x10240.size inb_S256x10240_S256x10240_0_0).toLoadRect (harg5.unread e) = e :=
    (View.ld_unit_zero (by decide) _ _).trans (harg5.read_unread _)
  obtain ⟨hS, hA, hC⟩ := after_t1 Variants.none c none i arg1 harg1 arg2 harg2 arg3 harg3 arg4 harg4 arg5 harg5 arg6 harg6 arg7 harg7 h1 (harg1.unread x) (harg2.unread w) (harg5.unread e) f4 f6
    (k0_pay1, k0_pay2 (arg7.view.readAt (Elt F) (Rect.unit (s := S256x1) ![0, 0] S256x1.size inb_S256x1_S256x1_0_0).toLoadRect (harg7.unread mm)))
    x w e hf1 hf2 hf5
  sl_step
  iapply Hk
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact (View.read_writes_full arg3.view _ _ _ []).trans ((congrFun₂ (rfl : k0_pay3 (F := F) = k0_pay3) _ _).trans (congrArg₂ k0_pay3 ((congrArg Prod.fst hS).trans (show _ = (bis e (k0_pay1, k0_pay2 mm) 17).1 by rw [e7]; try rfl)) e5))
  isplitl [H4]
  · iexists _; isplitr
    swap; · iexact H4
    ipureintro; exact hA
  isplitl [H5]
  · iexists _; isplitr
    swap; · iexact H5
    ipureintro; exact harg5.read_unread _
  isplitl [H6]
  · iexists _; isplitr
    swap; · iexact H6
    ipureintro; exact hC
  iexists _; isplitr
  swap; · iexact H7
  ipureintro; exact harg7.read_unread _

set_option maxHeartbeats 1000000 in
/-- The first point: it multiplies the first block into the first pair of scratch buffers and stores nothing into the output. -/
theorem run_first (c : Dev nD) (i : grid0.Coords) (arg1 : Memref sig .tc .vmem S256x1024 .bf16) (harg1 : arg1.IsWhole) (arg2 : Memref sig .tc .vmem S10240x1024 .bf16) (harg2 : arg2.IsWhole) (arg3 : Memref sig .tc .vmem S256x10240 .f32) (harg3 : arg3.IsWhole) (arg4 : Memref sig .tc .vmem S256x10240 .f32) (harg4 : arg4.IsWhole) (arg5 : Memref sig .tc .vmem S256x10240 .f32) (harg5 : arg5.IsWhole) (arg6 : Memref sig .tc .vmem S256x1 .f32) (harg6 : arg6.IsWhole) (arg7 : Memref sig .tc .vmem S256x1 .f32) (harg7 : arg7.IsWhole) (h1 : k0_cond1 i = 1#1) (h2 : ¬k0_cond2 i = 1#1) (h3 : ¬k0_cond3 i = 1#1)
    (x : Vec F S256x1024 .bf16) (w : Vec F S10240x1024 .bf16) (xi e : Vec F S256x10240 .f32) (mm : Vec F S256x1 .f32)
    (E : Set ℕ) (K : PUnit → sProp 𝕄) :
    iprop(owns (c : Thread nD τ) arg1 fullShare x ∗ owns (c : Thread nD τ) arg2 fullShare w ∗ owns (c : Thread nD τ) arg3 fullShare xi ∗ (∃ d, owns (c : Thread nD τ) arg4 fullShare d) ∗ owns (c : Thread nD τ) arg5 fullShare e ∗ (∃ d, owns (c : Thread nD τ) arg6 fullShare d) ∗ owns (c : Thread nD τ) arg7 fullShare mm
        ∗ (iprop(owns (c : Thread nD τ) arg1 fullShare x ∗ owns (c : Thread nD τ) arg2 fullShare w ∗ owns (c : Thread nD τ) arg3 fullShare (xi) ∗ owns (c : Thread nD τ) arg4 fullShare (eFull x w) ∗ owns (c : Thread nD τ) arg5 fullShare e ∗ owns (c : Thread nD τ) arg6 fullShare (mAt x w 17) ∗ owns (c : Thread nD τ) arg7 fullShare mm) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f1, %hf1, H1⟩, ⟨%f2, %hf2, H2⟩, ⟨%f3, %hf3, H3⟩, ⟨%d4, %f4, -, H4⟩, ⟨%f5, %hf5, H5⟩, ⟨%d6, %f6, -, H6⟩, ⟨%f7, %hf7, H7⟩, Hk⟩
  obtain rfl := harg1.eq_unread hf1; obtain rfl := harg2.eq_unread hf2; obtain rfl := harg3.eq_unread hf3; obtain rfl := harg5.eq_unread hf5; obtain rfl := harg7.eq_unread hf7
  sl_exec (disch := first | sl_exact h1 | sl_exact h2 | sl_exact h3)
  have e7 : arg7.view.readAt (Elt F) (Rect.unit (s := S256x1) ![0, 0] S256x1.size inb_S256x1_S256x1_0_0).toLoadRect (harg7.unread mm) = mm :=
    (View.ld_unit_zero (by decide) _ _).trans (harg7.read_unread _)
  have e5 : arg5.view.readAt (Elt F) (Rect.unit (s := S256x10240) ![0, 0] S256x10240.size inb_S256x10240_S256x10240_0_0).toLoadRect (harg5.unread e) = e :=
    (View.ld_unit_zero (by decide) _ _).trans (harg5.read_unread _)
  obtain ⟨hS, hA, hC⟩ := after_t1 Variants.none c none i arg1 harg1 arg2 harg2 arg3 harg3 arg4 harg4 arg5 harg5 arg6 harg6 arg7 harg7 h1 (harg1.unread x) (harg2.unread w) (harg5.unread e) f4 f6
    (k0_pay1, k0_pay2 (arg7.view.readAt (Elt F) (Rect.unit (s := S256x1) ![0, 0] S256x1.size inb_S256x1_S256x1_0_0).toLoadRect (harg7.unread mm)))
    x w e hf1 hf2 hf5
  sl_step
  iapply Hk
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact harg3.read_unread _
  isplitl [H4]
  · iexists _; isplitr
    swap; · iexact H4
    ipureintro; exact hA
  isplitl [H5]
  · iexists _; isplitr
    swap; · iexact H5
    ipureintro; exact harg5.read_unread _
  isplitl [H6]
  · iexists _; isplitr
    swap; · iexact H6
    ipureintro; exact hC
  iexists _; isplitr
  swap; · iexact H7
  ipureintro; exact harg7.read_unread _

set_option maxHeartbeats 1000000 in
/-- An odd point: the pairs of scratch buffers change places. -/
theorem run_odd (c : Dev nD) (i : grid0.Coords) (arg1 : Memref sig .tc .vmem S256x1024 .bf16) (harg1 : arg1.IsWhole) (arg2 : Memref sig .tc .vmem S10240x1024 .bf16) (harg2 : arg2.IsWhole) (arg3 : Memref sig .tc .vmem S256x10240 .f32) (harg3 : arg3.IsWhole) (arg4 : Memref sig .tc .vmem S256x10240 .f32) (harg4 : arg4.IsWhole) (arg5 : Memref sig .tc .vmem S256x10240 .f32) (harg5 : arg5.IsWhole) (arg6 : Memref sig .tc .vmem S256x1 .f32) (harg6 : arg6.IsWhole) (arg7 : Memref sig .tc .vmem S256x1 .f32) (harg7 : arg7.IsWhole) (h1 : ¬k0_cond1 i = 1#1) (h3 : k0_cond3 i = 1#1) (h4 : k0_cond4 i = 1#1)
    (x : Vec F S256x1024 .bf16) (w : Vec F S10240x1024 .bf16) (xi e : Vec F S256x10240 .f32) (mm : Vec F S256x1 .f32)
    (E : Set ℕ) (K : PUnit → sProp 𝕄) :
    iprop(owns (c : Thread nD τ) arg1 fullShare x ∗ owns (c : Thread nD τ) arg2 fullShare w ∗ owns (c : Thread nD τ) arg3 fullShare xi ∗ owns (c : Thread nD τ) arg4 fullShare e ∗ (∃ d, owns (c : Thread nD τ) arg5 fullShare d) ∗ owns (c : Thread nD τ) arg6 fullShare mm ∗ (∃ d, owns (c : Thread nD τ) arg7 fullShare d)
        ∗ (iprop(owns (c : Thread nD τ) arg1 fullShare x ∗ owns (c : Thread nD τ) arg2 fullShare w ∗ owns (c : Thread nD τ) arg3 fullShare (outOf e mm) ∗ owns (c : Thread nD τ) arg4 fullShare e ∗ owns (c : Thread nD τ) arg5 fullShare (eFull x w) ∗ owns (c : Thread nD τ) arg6 fullShare mm ∗ owns (c : Thread nD τ) arg7 fullShare (mAt x w 17)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, ⟨%d7, %f7, -, H7⟩, Hk⟩
  obtain rfl := harg1.eq_unread hf1; obtain rfl := harg2.eq_unread hf2; obtain rfl := harg3.eq_unread hf3; obtain rfl := harg4.eq_unread hf4; obtain rfl := harg6.eq_unread hf6
  sl_exec (disch := first | sl_exact h1 | sl_exact h3 | sl_exact h4)
  have e7 : arg6.view.readAt (Elt F) (Rect.unit (s := S256x1) ![0, 0] S256x1.size inb_S256x1_S256x1_0_0).toLoadRect (harg6.unread mm) = mm :=
    (View.ld_unit_zero (by decide) _ _).trans (harg6.read_unread _)
  have e5 : arg4.view.readAt (Elt F) (Rect.unit (s := S256x10240) ![0, 0] S256x10240.size inb_S256x10240_S256x10240_0_0).toLoadRect (harg4.unread e) = e :=
    (View.ld_unit_zero (by decide) _ _).trans (harg4.read_unread _)
  obtain ⟨hS, hA, hC⟩ := after_t2 Variants.none c none i arg1 harg1 arg2 harg2 arg3 harg3 arg4 harg4 arg5 harg5 arg6 harg6 arg7 harg7 h3 (harg1.unread x) (harg2.unread w) (harg4.unread e) f5 f7
    (k0_pay4, k0_pay5 (arg6.view.readAt (Elt F) (Rect.unit (s := S256x1) ![0, 0] S256x1.size inb_S256x1_S256x1_0_0).toLoadRect (harg6.unread mm)))
    x w e hf1 hf2 hf4
  sl_step
  iapply Hk
  isplitl [H1]
  · iexists _; isplitr
    swap; · iexact H1
    ipureintro; exact harg1.read_unread _
  isplitl [H2]
  · iexists _; isplitr
    swap; · iexact H2
    ipureintro; exact harg2.read_unread _
  isplitl [H3]
  · iexists _; isplitr
    swap; · iexact H3
    ipureintro; exact (View.read_writes_full arg3.view _ _ _ []).trans ((congrFun₂ (rfl : k0_pay6 (F := F) = k0_pay3) _ _).trans (congrArg₂ k0_pay3 ((congrArg Prod.fst hS).trans (show _ = (bis e (k0_pay1, k0_pay2 mm) 17).1 by rw [e7]; try rfl)) e5))
  isplitl [H4]
  · iexists _; isplitr
    swap; · iexact H4
    ipureintro; exact harg4.read_unread _
  isplitl [H5]
  · iexists _; isplitr
    swap; · iexact H5
    ipureintro; exact hA
  isplitl [H6]
  · iexists _; isplitr
    swap; · iexact H6
    ipureintro; exact harg6.read_unread _
  iexists _; isplitr
  swap; · iexact H7
  ipureintro; exact hC

end Cert.KernelIdeal.Fused

end
-- ==== Proof.KI.Run.lean ====
module

public import proofs.«01_k».proof.Proof.KI.Body
public import Idealize.ShloMosaic.Lib.Claim

/-! The kernel's run: what the scratch holds between grid points, what each point leaves in the output block, and the
launch. -/

@[expose] public section

set_option maxRecDepth 16384

noncomputable section

namespace Cert.KernelIdeal.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's conditions over the points -/

/-- The first branch is taken at the even points. -/
theorem cond1_iff : ∀ t : Fin cfg0.N, k0_cond1 (grid0.coords t) = 1#1 ↔ t.val % 2 = 0 :=
  (by decide +kernel : ∀ t : Fin grid0.N, k0_cond1 (grid0.coords t) = 1#1 ↔ t.val % 2 = 0)
/-- The second branch is taken at the odd points. -/
theorem cond3_iff : ∀ t : Fin cfg0.N, k0_cond3 (grid0.coords t) = 1#1 ↔ t.val % 2 = 1 :=
  (by decide +kernel : ∀ t : Fin grid0.N, k0_cond3 (grid0.coords t) = 1#1 ↔ t.val % 2 = 1)
/-- An even point stores its output unless it is the first. -/
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)
/-- An odd point stores its output: it is not the first. -/
theorem cond4_iff : ∀ t : Fin cfg0.N, k0_cond4 (grid0.coords t) = 1#1 ↔ t.val ≠ 0 :=
  (by decide +kernel : ∀ t : Fin grid0.N, k0_cond4 (grid0.coords t) = 1#1 ↔ t.val ≠ 0)

/-- The two input windows are never idle. -/
theorem live0 : ∀ t : Fin cfg0.N, cfg0.idle 0 (grid0.coords t) = false := fun _ => rfl
/-- The weights' window is never idle. -/
theorem live1 : ∀ t : Fin cfg0.N, cfg0.idle 1 (grid0.coords t) = false := fun _ => rfl
/-- The output window is idle at the first point only, and is not written back there. -/
theorem live2 : ∀ t : Fin cfg0.N, t.val ≠ 0 → cfg0.idle 2 (grid0.coords t) = false :=
  (by decide +kernel : ∀ t : Fin grid0.N, t.val ≠ 0 → cfg0.idle 2 (grid0.coords t) = false)
/-- The result's window is idle at the first point, -/
theorem idle2 : ∀ t : Fin cfg0.N, t.val = 0 → cfg0.idle 2 (grid0.coords t) = true :=
  (by decide +kernel : ∀ t : Fin grid0.N, t.val = 0 → cfg0.idle 2 (grid0.coords t) = true)
/-- and is not written back there. -/
theorem noFlush2 : ∀ t : Fin cfg0.N, t.val = 0 → (cfg0.win 2).flush t = false :=
  (by decide +kernel : ∀ t : Fin grid0.N, t.val = 0 → (cfg0.win 2).flush t = false)

/-! ## What the buffers hold -/

/-- The block of rows multiplied at point `t`, -/
def xAt (c : Dev nD) (t : Fin cfg0.N) : Vec F S256x1024 .bf16 := iblk m c 0 t
/-- the weights, -/
def wAt (c : Dev nD) (t : Fin cfg0.N) : Vec F S10240x1024 .bf16 := iblk m c 1 t
/-- the product of the two, -/
def eAt (c : Dev nD) (t : Fin cfg0.N) : Vec F S256x10240 .f32 := eFull (xAt m c t) (wAt m c t)
/-- and its row maxima. -/
def mxAt (c : Dev nD) (t : Fin cfg0.N) : Vec F S256x1 .f32 := mAt (xAt m c t) (wAt m c t) 17

/-- What point `n` stores: the selection of the point before (at the first point nothing is stored, and this is not read). -/
def outAt (c : Dev nD) : (n : ℕ) → n < cfg0.N → Vec F S256x10240 .f32
  | 0, h => eAt m c ⟨0, h⟩
  | n + 1, h => outOf (eAt m c ⟨n, by omega⟩) (mxAt m c ⟨n, by omega⟩)

/-- After the first point the result's buffer holds the block made from the previous point's product. -/
theorem outAt_pos (c : Dev nD) (n : ℕ) (h : n < cfg0.N) (hz : n ≠ 0) :
    outAt m c n h = outOf (eAt m c ⟨n - 1, by omega⟩) (mxAt m c ⟨n - 1, by omega⟩) := by
  cases n with
  | zero => exact absurd rfl hz
  | succ n => rfl

/-- The scratch buffers. -/
abbrev sc0 : Memref sig .tc .vmem S256x10240 .f32 := Memref.whole cc0_scratch0
/-- The second scratch buffer, -/
abbrev sc1 : Memref sig .tc .vmem S256x10240 .f32 := Memref.whole cc0_scratch1
/-- the third, -/
abbrev sc2 : Memref sig .tc .vmem S256x1 .f32 := Memref.whole cc0_scratch2
/-- the fourth. -/
abbrev sc3 : Memref sig .tc .vmem S256x1 .f32 := Memref.whole cc0_scratch3

/-- The pair written at point `n` holds that point's product and maxima, the other pair anything. -/
def held (c : Dev nD) (n : ℕ) (h : n < cfg0.N) : sProp 𝕄 :=
  if n % 2 = 0 then
    iprop((owns (c : Thread nD τ) sc0 fullShare (eAt m c ⟨n, h⟩) ∗ (∃ d, owns (c : Thread nD τ) sc1 fullShare d)
      ∗ owns (c : Thread nD τ) sc2 fullShare (mxAt m c ⟨n, h⟩) ∗ (∃ d, owns (c : Thread nD τ) sc3 fullShare d)) ∗ (∃ r, prngReg c r))
  else
    iprop(((∃ d, owns (c : Thread nD τ) sc0 fullShare d) ∗ owns (c : Thread nD τ) sc1 fullShare (eAt m c ⟨n, h⟩)
      ∗ (∃ d, owns (c : Thread nD τ) sc2 fullShare d) ∗ owns (c : Thread nD τ) sc3 fullShare (mxAt m c ⟨n, h⟩)) ∗ (∃ r, prngReg c r))

/-- What the launch hands over: every scratch buffer at anything. -/
theorem entry_eq (c : Dev nD) :
    (Pipeline.ΦA spec0 c : sProp 𝕄)
      = iprop(((∃ d, owns (c : Thread nD τ) sc0 fullShare d) ∗ (∃ d, owns (c : Thread nD τ) sc1 fullShare d)
        ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The invariant before point `n`. -/
def carried (c : Dev nD) : (n : ℕ) → n ≤ cfg0.N → sProp 𝕄
  | 0, _ => Pipeline.ΦA spec0 c
  | n + 1, h => held m c n h

/-- Before the first point the scratch holds anything. -/
theorem carried_zero (c : Dev nD) (n : ℕ) (h : n ≤ cfg0.N) (hz : n = 0) : carried m c n h = Pipeline.ΦA spec0 c := by
  subst hz; rfl
/-- Later it holds what the previous point left. -/
theorem carried_pos (c : Dev nD) (n : ℕ) (h : n ≤ cfg0.N) (hz : n ≠ 0) : carried m c n h = held m c (n - 1) (by omega) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ t := carried m c t.val (Nat.le_of_lt_succ t.isLt)
  q _ := fullShare
  owed _ := 0

/-- The windows' arrays at entry. -/
theorem A_eq (c : Dev nD) (w : Fin cfg0.W) : (dats m 0 c).A w = V m c (Pipeline.arrRef spec0 w) := by
  dsimp only [dats]
/-- What is carried into a point. -/
theorem carried_castSucc (c : Dev nD) (t : Fin cfg0.N) :
    (dats m 0 c).Φ t.castSucc = carried m c t.val (Nat.le_of_lt t.isLt) := by
  dsimp only [dats]; exact Pipeline.Dat.Φ_castSucc (carried m c) t
/-- The point leaves its block of rows as it was, -/
theorem after0 (c : Dev nD) (t : Fin cfg0.N) : (dats m 0 c).after 0 t = iblk m c 0 t := by dsimp only [dats]
/-- and the weights, -/
theorem after1 (c : Dev nD) (t : Fin cfg0.N) : (dats m 0 c).after 1 t = iblk m c 1 t := by dsimp only [dats]
/-- and the result's buffer at `outAt`. -/
theorem after2 (c : Dev nD) (t : Fin cfg0.N) : (dats m 0 c).after 2 t = outAt m c t.val t.isLt := by dsimp only [dats]
/-- The block of rows is in its buffer when the point begins, -/
theorem before0 (c : Dev nD) (t : Fin cfg0.N) (d) : (dats m 0 c).before 0 t d = iblk m c 0 t :=
  before0_0_of m (dats m 0 c) (A_eq m c 0) (after0 m c) t d
/-- and so are the weights. -/
theorem before1 (c : Dev nD) (t : Fin cfg0.N) (d) : (dats m 0 c).before 1 t d = iblk m c 1 t :=
  before0_1_of m (dats m 0 c) (A_eq m c 1) (after1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 4800000 in
/-- The body at any point, by its three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = held m c t.val t.isLt from rfl]
  rw [show (dats m 0 c).leavesExact 0 t = owns (c : Thread nD τ) (st0_0 t) fullShare ((dats m 0 c).after 0 t) from by
    unfold Dat.leavesExact; rw [live0 t], after0]
  rw [show (dats m 0 c).leavesExact 1 t = owns (c : Thread nD τ) (st0_1 t) fullShare ((dats m 0 c).after 1 t) from by
    unfold Dat.leavesExact; rw [live1 t], after1]
  rw [carried_castSucc m c t]
  by_cases hz : t.val = 0
  · have he : t.val % 2 = 0 := by omega
    rw [carried_zero m c _ _ hz, entry_eq, Dat.leavesExact_idle (dats m 0 c) 2 t (idle2 t hz) (noFlush2 t hz)]
    rw [held, if_pos he]
    iintro ⟨⟨⟨HS0, ⟨%d1, HS1⟩, HS2, ⟨%d3, HS3⟩⟩, Hg⟩, Ho, ⟨%e0, H0⟩, ⟨%e1, H1⟩, ⟨%e2, H2⟩⟩
    iapply (run_first c (grid0.coords t) _ _ _ _ _ _ _ _ _ _ _ _ _ _ ((cond1_iff t).mpr he)
      (fun h => (cond2_iff t).mp h hz) (fun h => by have := (cond3_iff t).mp h; omega) (xAt m c t) (wAt m c t) _ d1 d3 Set.univ _)
    isplitl [H0]; · iexact H0
    isplitl [H1]; · iexact H1
    isplitl [H2]; · iexact H2
    isplitl [HS0]; · iexact HS0
    isplitl [HS1]; · iexact HS1
    isplitl [HS2]; · iexact HS2
    isplitl [HS3]; · iexact HS3
    iintro ⟨H0, H1, H2, HS0, HS1, HS2, HS3⟩
    isplitl [HS0 HS1 HS2 HS3 Hg]
    · isplitl [HS0 HS1 HS2 HS3]
      · isplitl [HS0]; · iexact HS0
        isplitl [HS1]; · iexists _; iexact HS1
        isplitl [HS2]; · iexact HS2
        iexists _; iexact HS3
      iexact Hg
    isplitl [Ho]; · iexact Ho
    isplitl [H0]; · iexact H0
    isplitl [H1]; · iexact H1
    iexists _; iexact H2
  · rw [show (dats m 0 c).leavesExact 2 t = owns (c : Thread nD τ) (st0_2 t) fullShare ((dats m 0 c).after 2 t) from by
      unfold Dat.leavesExact; rw [live2 t hz], after2]
    rw [carried_pos m c _ _ hz, outAt_pos m c _ _ hz]
    by_cases he : t.val % 2 = 0
    · rw [held, held, if_neg (by omega), if_pos he]
      iintro ⟨⟨⟨HS0, HS1, HS2, HS3⟩, Hg⟩, Ho, ⟨%e0, H0⟩, ⟨%e1, H1⟩, ⟨%e2, H2⟩⟩
      iapply (run_even c (grid0.coords t) _ _ _ _ _ _ _ _ _ _ _ _ _ _ ((cond1_iff t).mpr he)
        ((cond2_iff t).mpr hz) (fun h => by have := (cond3_iff t).mp h; omega) (xAt m c t) (wAt m c t) _ _ _ Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iintro ⟨H0, H1, H2, HS0, HS1, HS2, HS3⟩
      isplitl [HS0 HS1 HS2 HS3 Hg]
      · isplitl [HS0 HS1 HS2 HS3]
        · isplitl [HS0]; · iexact HS0
          isplitl [HS1]; · iexists _; iexact HS1
          isplitl [HS2]; · iexact HS2
          iexists _; iexact HS3
        iexact Hg
      isplitl [Ho]; · iexact Ho
      isplitl [H0]; · iexact H0
      isplitl [H1]; · iexact H1
      iexact H2
    · rw [held, held, if_pos (by omega), if_neg he]
      iintro ⟨⟨⟨HS0, HS1, HS2, HS3⟩, Hg⟩, Ho, ⟨%e0, H0⟩, ⟨%e1, H1⟩, ⟨%e2, H2⟩⟩
      iapply (run_odd c (grid0.coords t) _ _ _ _ _ _ _ _ _ _ _ _ _ _ (fun h => he ((cond1_iff t).mp h))
        ((cond3_iff t).mpr (by omega)) ((cond4_iff t).mpr hz) (xAt m c t) (wAt m c t) _ _ _ Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      iintro ⟨H0, H1, H2, HS0, HS1, HS2, HS3⟩
      isplitl [HS0 HS1 HS2 HS3 Hg]
      · isplitl [HS0 HS1 HS2 HS3]
        · isplitl [HS0]; · iexists _; iexact HS0
          isplitl [HS1]; · iexact HS1
          isplitl [HS2]; · iexists _; iexact HS2
          iexact HS3
        iexact Hg
      isplitl [Ho]; · iexact Ho
      isplitl [H0]; · iexact H0
      isplitl [H1]; · iexact H1
      iexact H2

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch at entry is what the first point takes. -/
theorem hin (c : Dev nD) : Pipeline.ΦA spec0 c ⊢ (dats m 0 c).Φ 0 := by
  rw [show (dats m 0 c).Φ 0 = carried m c 0 (Nat.zero_le _) from rfl, carried_zero m c 0 _ rfl]
  try exact Idealize.SL.BI.Entails.refl _

/-- After the last point the scratch is given back at whatever it holds. -/
theorem hout (c : Dev nD) : (dats m 0 c).Φ (Fin.last cfg0.N) ⊢ Pipeline.ΦA spec0 c := by
  have hN : cfg0.N = 33 := N_0
  rw [show (dats m 0 c).Φ (Fin.last cfg0.N) = carried m c cfg0.N (Nat.le_refl _) from rfl, carried_pos m c _ _ (by omega), entry_eq,
    held, if_pos (by omega)]
  iintro ⟨⟨HS0, HS1, HS2, HS3⟩, Hg⟩
  isplitl [HS0 HS1 HS2 HS3]
  · isplitl [HS0]; · iexists _; iexact HS0
    isplitl [HS1]; · iexact HS1
    isplitl [HS2]; · iexists _; iexact HS2
    iexact HS3
  iexact Hg

-- the launch's implicit arguments are found by unfolding definitions in a metavariable's type
set_option backward.isDefEq.respectTransparency.types false in
set_option maxHeartbeats 800000 in
/-- The launch: every execution ends, with the arrays at what the proof data say and every counter at zero. -/
theorem run_quiet : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arrays' part of the launch. -/
theorem run_arrays : θ_run defs (onTc (τ := τ) (main (F := F))) (s₀ m ρ) (Pipeline.FramePost cfgs (dats m) 0 (V m)) :=
  (θ_run defs _ _).mono (fun _ h => h.1) (run_quiet m ρ)

/-- The frame: the arguments end unchanged, and every counter at zero. -/
theorem frame_quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_arrays m ρ)) ((θ_run defs _ _).mono (fun _ h => h.2) (run_quiet m ρ))

end Cert.KernelIdeal.Fused

end
-- ==== Proof.Bisect.lean ====
/- Bisection for the K-th largest entry of a row of extended reals: what its bounds keep, and why keeping the entries
   above the lower bound agrees with keeping the K largest wherever the entry is decided. -/
module

public import Idealize.ShloMosaic.PureOps.Ideal.Laws

@[expose] public section

noncomputable section

namespace Cert.Bisect

variable {n : ℕ}

/-- How many entries of the row lie strictly above `t`. -/
def above (e : Fin n → EReal) (t : EReal) : ℕ := (Finset.univ.filter fun j => t < e j).card

/-- The middle of an interval, as the kernel computes it. -/
def mid (p : EReal × EReal) : EReal := ((1 / 2 : ℝ) : EReal) * (p.1 + p.2)

/-- One trip: the middle becomes the lower bound when at least `K` entries lie above it, the upper bound otherwise. -/
def step (e : Fin n → EReal) (K : ℕ) (p : EReal × EReal) : EReal × EReal :=
  if K ≤ above e (mid p) then (mid p, p.2) else (p.1, mid p)

/-- The bounds after so many trips, from `0` and `top`. -/
def bounds (e : Fin n → EReal) (K : ℕ) (top : EReal) : ℕ → EReal × EReal
  | 0 => (0, top)
  | t + 1 => step e K (bounds e K top t)

/-- The middle of two nonnegative bounds is nonnegative. -/
theorem mid_nonneg {p : EReal × EReal} (h1 : 0 ≤ p.1) (h2 : 0 ≤ p.2) : 0 ≤ mid p :=
  mul_nonneg (by norm_cast; norm_num) (add_nonneg h1 h2)

/-- What every trip keeps: both bounds nonnegative, the lower one `0` or with at least `K` entries above it, the upper
    one with fewer than `K` above it. -/
theorem bounds_inv (e : Fin n → EReal) {K : ℕ} (hK : 0 < K) {top : EReal} (h0 : 0 ≤ top) (hub : ∀ j, e j ≤ top) (t : ℕ) :
    0 ≤ (bounds e K top t).1 ∧ 0 ≤ (bounds e K top t).2
      ∧ ((bounds e K top t).1 = 0 ∨ K ≤ above e (bounds e K top t).1) ∧ above e (bounds e K top t).2 < K := by
  induction t with
  | zero =>
    refine ⟨le_rfl, h0, Or.inl rfl, ?_⟩
    have : above e (bounds e K top 0).2 = 0 := by
      show (Finset.univ.filter fun j => top < e j).card = 0
      rw [Finset.card_eq_zero, Finset.filter_eq_empty_iff]
      exact fun j _ => not_lt.mpr (hub j)
    rw [this]; exact hK
  | succ t ih =>
    obtain ⟨a, b, c, d⟩ := ih
    show 0 ≤ (step e K (bounds e K top t)).1 ∧ _
    have hm := mid_nonneg a b
    by_cases h : K ≤ above e (mid (bounds e K top t))
    · have hs : bounds e K top (t + 1) = (mid (bounds e K top t), (bounds e K top t).2) := by
        show step e K _ = _; unfold step; rw [if_pos h]
      rw [← show bounds e K top (t + 1) = step e K (bounds e K top t) from rfl, hs]
      exact ⟨hm, b, Or.inr h, d⟩
    · have hs : bounds e K top (t + 1) = ((bounds e K top t).1, mid (bounds e K top t)) := by
        show step e K _ = _; unfold step; rw [if_neg h]
      rw [← show bounds e K top (t + 1) = step e K (bounds e K top t) from rfl, hs]
      exact ⟨a, hm, c, Nat.lt_of_not_le h⟩

/-- From a finite top the bounds stay finite and their distance halves at every trip. -/
theorem bounds_width (e : Fin n → EReal) (K : ℕ) (r : ℝ) (t : ℕ) :
    ∃ a b : ℝ, bounds e K (r : EReal) t = ((a : EReal), (b : EReal)) ∧ b - a = r / 2 ^ t := by
  induction t with
  | zero => exact ⟨0, r, by simp [bounds], by simp⟩
  | succ t ih =>
    obtain ⟨a, b, h, w⟩ := ih
    have hm : mid (bounds e K (r : EReal) t) = (((a + b) / 2 : ℝ) : EReal) := by
      rw [h]
      show ((1 / 2 : ℝ) : EReal) * ((a : EReal) + (b : EReal)) = _
      rw [← EReal.coe_add, ← EReal.coe_mul]
      congr 1; ring
    have hb : bounds e K (r : EReal) (t + 1) = step e K (bounds e K (r : EReal) t) := rfl
    have hw : r / 2 ^ (t + 1) = (r / 2 ^ t) / 2 := by rw [pow_succ]; field_simp
    rw [hb]; unfold step
    rw [hm]
    split
    · exact ⟨(a + b) / 2, b, by rw [h], by rw [hw, ← w]; ring⟩
    · exact ⟨a, (a + b) / 2, by rw [h], by rw [hw, ← w]; ring⟩

/-- What is used of the `K`-th largest rectified entry `v`: at least `K` entries reach it, fewer than `K` exceed it, and it
    is nonnegative. -/
structure Kth (e : Fin n → EReal) (K : ℕ) (v : EReal) : Prop where
  reach : K ≤ (Finset.univ.filter fun j => v ≤ max (e j) 0).card
  exceed : (Finset.univ.filter fun j => v < max (e j) 0).card < K
  nonneg : 0 ≤ v

/-- An upper bound with fewer than `K` entries above it is not below the `K`-th largest. -/
theorem Kth.le_hi {e : Fin n → EReal} {K : ℕ} {v hi : EReal} (hv : Kth e K v) (h0 : 0 ≤ hi) (h : above e hi < K) : v ≤ hi := by
  by_contra hlt
  rw [not_le] at hlt
  refine absurd (lt_of_le_of_lt (hv.reach.trans (Finset.card_le_card ?_)) h) (lt_irrefl _)
  intro j hj
  rw [Finset.mem_filter] at hj ⊢
  refine ⟨hj.1, ?_⟩
  rcases le_max_iff.mp hj.2 with h1 | h1
  · exact hlt.trans_le h1
  · exact absurd (hlt.trans_le h1) (not_lt.mpr h0)

/-- A positive entry that reaches the `K`-th largest lies above the lower bound. -/
theorem Kth.lo_lt {e : Fin n → EReal} {K : ℕ} {v lo x : EReal} (hv : Kth e K v) (hlo : lo = 0 ∨ K ≤ above e lo)
    (hx : 0 < x) (hvx : v ≤ x) : lo < x := by
  rcases hlo with h | h
  · rw [h]; exact hx
  · by_contra hlt
    rw [not_lt] at hlt
    refine absurd (lt_of_le_of_lt (h.trans (Finset.card_le_card ?_)) hv.exceed) (lt_irrefl _)
    intro j hj
    rw [Finset.mem_filter] at hj ⊢
    exact ⟨hj.1, (hvx.trans hlt).trans_lt (lt_max_of_lt_left hj.2)⟩

/-- The value theorem on one row. `top` is the row's largest rectified entry, `v` its `K`-th largest, `o` an entry of the
    reference: `0`, or the rectified entry itself, which then reaches `v`. Where the entry is decided (`o` is positive, or
    the rectified entry lies below `v` by more than `top · 2⁻¹⁷`, or it is not positive), keeping the entries above the
    lower bound of seventeen trips leaves exactly `o`. -/
theorem decided_eq (e : Fin n → EReal) {K : ℕ} (hK : 0 < K) {top v o : EReal} (h0 : 0 ≤ top) (hub : ∀ j, e j ≤ top)
    (hv : Kth e K v) (j : Fin n) (ho : o = 0 ∨ (o = max (e j) 0 ∧ v ≤ max (e j) 0))
    (hd : 0 < o ∨ max (e j) 0 < v - top * ((1 / 2 ^ 17 : ℝ) : EReal) ∨ max (e j) 0 ≤ 0) :
    (if (bounds e K top 17).1 < e j then e j else 0) = o := by
  obtain ⟨l0, u0, hlo, hhi⟩ := bounds_inv e hK h0 hub 17
  rcases hd with hd | hd | hd
  · rcases ho with ho | ⟨ho, hvo⟩
    · exact absurd hd (by rw [ho]; exact lt_irrefl _)
    · have hpos : 0 < e j := by
        rw [ho] at hd
        rcases lt_max_iff.mp hd with h | h
        · exact h
        · exact absurd h (lt_irrefl _)
      have hm : max (e j) 0 = e j := max_eq_left hpos.le
      rw [hm] at hvo ho
      rw [if_pos (hv.lo_lt hlo hpos hvo), ho]
  · have hkeep : ¬ (bounds e K top 17).1 < e j := by
      rw [not_lt]
      induction top with
      | bot => exact absurd h0 (by simp)
      | top =>
        have : (⊤ : EReal) * ((1 / 2 ^ 17 : ℝ) : EReal) = ⊤ := EReal.top_mul_of_pos (by norm_cast; norm_num)
        rw [this, EReal.sub_top] at hd
        exact absurd hd not_lt_bot
      | coe r =>
        obtain ⟨a, b, hab, hw⟩ := bounds_width e K r 17
        have hvb : v ≤ (b : EReal) := by
          have := hv.le_hi u0 hhi
          rwa [hab] at this
        rw [hab]
        show e j ≤ (a : EReal)
        have h1 : e j < v - (r : EReal) * ((1 / 2 ^ 17 : ℝ) : EReal) := (le_max_left _ _).trans_lt hd
        have h2 : v - (r : EReal) * ((1 / 2 ^ 17 : ℝ) : EReal) ≤ (b : EReal) - (r : EReal) * ((1 / 2 ^ 17 : ℝ) : EReal) :=
          EReal.sub_le_sub hvb le_rfl
        refine (h1.trans_le h2).le.trans ?_
        rw [← EReal.coe_mul, ← EReal.coe_sub, EReal.coe_le_coe_iff]
        have : r * (1 / 2 ^ 17) = r / 2 ^ 17 := by ring
        rw [this, ← hw]; linarith
    rw [if_neg hkeep]
    rcases ho with ho | ⟨_, hvo⟩
    · exact ho.symm
    · have hnn : (0 : EReal) ≤ top * ((1 / 2 ^ 17 : ℝ) : EReal) := mul_nonneg h0 (by norm_cast; norm_num)
      have hle : v - top * ((1 / 2 ^ 17 : ℝ) : EReal) ≤ v := by
        have := EReal.sub_le_sub (le_refl v) hnn
        simpa using this
      exact absurd (hd.trans_le (hle.trans hvo)) (lt_irrefl _)
  · have hle : e j ≤ 0 := (le_max_left _ _).trans hd
    rw [if_neg (not_lt.mpr (hle.trans l0))]
    rcases ho with ho | ⟨ho, _⟩
    · exact ho.symm
    · rw [ho, max_eq_right hle]

end Cert.Bisect

end
-- ==== Proof.KI.Payloads.lean ====
module

public import proofs.«01_k».proof.Proof.KI.Body
public import proofs.«01_k».proof.Proof.Bisect
public import Idealize.ShloMosaic.Lib.MatmulPlain
public import Idealize.ShloMosaic.Lib.ValueIdx
public import Idealize.ShloMosaic.Lib.ValueLayoutCasts
public import Idealize.ShloMosaic.Lib.KernelVsHost
public import Idealize.ShloMosaic.Lib.WordCmp

/-! The kernel's values at the extended reals, entry by entry: the product, the running row maximum, the bisection's
bounds and the kept entries. -/

@[expose] public section

set_option maxRecDepth 16384

noncomputable section

namespace Cert.KernelIdeal.Fused

open Cert.KernelIdeal Cert.KernelIdeal.Gen
open Idealize.ShloMosaic Idealize.ShloMosaic.ValueIdx

/-- Inserting a column into a row index of a reduced matrix gives that entry's index. -/
theorem lift_row {a b : ℕ} (h : (⟨2, ![a, b]⟩ : Shape).Reduces [1] ⟨1, ![a]⟩) (r : Fin a) (k : Fin b) :
    h.lift (ix1 r) k = ix2 r k := by
  funext c
  match c with
  | ⟨0, _⟩ => rfl
  | ⟨1, _⟩ => rfl

/-- One column spread over many reads, anywhere in a row, that row's entry. -/
theorem spread_apply {α : Type} (v : S256x1.Idx → α) (r : Fin 256) (j : Fin 10240) :
    broadcastTo S256x10240 v broadcasts_S256x1_S256x10240 (ix2 r j) = v (ix2 r 0) :=
  broadcastTo_apply v _ _ _ fun a => match a with
    | ⟨0, _⟩ => rfl
    | ⟨1, _⟩ => rfl

/-- The kernel's word for one half. -/
theorem half_word : (Ideal.ofBits .f32 0x3F000000#32 : EReal) = ((1 / 2 : ℝ) : EReal) := by
  simp [Ideal.ofBits, Ideal.ieee]
  rw [← EReal.coe_mul]
  norm_num

/-- The kernel's word for the number of entries kept. -/
theorem count_word : (Ideal.ofBits .f32 0x44000000#32 : EReal) = ((512 : ℝ) : EReal) := by
  simp [Ideal.ofBits, Ideal.ieee]
  rw [← EReal.coe_mul]
  norm_num

/-- The word of the running maximum's start is below everything. -/
theorem bot_word : (Ideal.ofBits .f32 0xFF800000#32 : EReal) = ⊥ := by
  simp [Ideal.ofBits, Ideal.ieee]

/-- The product of one chunk: a dot product of a row of `x` and a row of the weights' chunk. -/
theorem pay7_apply (x : Vec Ideal S256x1024 .bf16) (v : Vec Ideal S640x1024 .bf16) (r : Fin 256) (c : Fin 640) :
    k0_pay7 (F := Ideal) x v (ix2 r c) = ∑ k : Fin 1024, (x (ix2 r k) : EReal) * v (ix2 c k) := by
  unfold k0_pay7
  rw [shapeCast_self, shapeCast_self]
  refine (Ideal.matmul_transposedRhs_apply (M := 256) (K := 1024) (N := 640) none x v _ r c).trans ?_
  show (Ideal.ofBits .f32 0x00000000#32 : EReal) + _ = _
  rw [Ideal.ofBits_zero_f32, zero_add]

/-- Row `r` of the product block. -/
def rowE (x : Vec Ideal S256x1024 .bf16) (w : Vec Ideal S10240x1024 .bf16) (r : Fin 256) (j : Fin 10240) : EReal :=
  ∑ k : Fin 1024, (x (ix2 r k) : EReal) * w (ix2 j k)

/-- An entry of a chunk's product is the entry of the product at the chunk's column. -/
theorem pay7_wch (x : Vec Ideal S256x1024 .bf16) (w : Vec Ideal S10240x1024 .bf16) (r : Fin 256) (c : Fin 640) (k : ℕ)
    (j : Fin 10240) (hj : j.val = 640 * (k % 16) + c.val) :
    k0_pay7 (F := Ideal) x (wch w k) (ix2 r c) = rowE x w r j := by
  rw [pay7_apply]
  refine Finset.sum_congr rfl fun q _ => congrArg (_ * ·) (congrArg w (funext fun a => Fin.ext ?_))
  match a with
  | ⟨0, _⟩ => exact hj.symm
  | ⟨1, _⟩ => rfl

/-- The product block, entry by entry. -/
theorem eFull_apply (x : Vec Ideal S256x1024 .bf16) (w : Vec Ideal S10240x1024 .bf16) (r : Fin 256) (j : Fin 10240) :
    eFull (F := Ideal) x w (ix2 r j) = rowE x w r j := by
  show k0_pay8 (F := Ideal) x (wch w (j.val / 640)) (ix2 r ⟨j.val % 640, _⟩) = _
  unfold k0_pay8
  rw [shapeCast_self]
  have hj := j.isLt
  exact pay7_wch x w r ⟨j.val % 640, Nat.mod_lt _ (by decide)⟩ _ j (by show j.val = 640 * (j.val / 640 % 16) + j.val % 640; omega)

/-- The maximum of a row of a chunk is below a bound exactly when every entry is. -/
theorem rowMax_le_iff (g : FVec Ideal S256x640 .f32) (r : Fin 256) (u : EReal) :
    (multiReduction .maximumf [1] S256 g 0xFF800000#32 reduces_S256x640_S256 (.inl rfl) rfl (ix1 r) : EReal) ≤ u
      ↔ ∀ c : Fin 640, (g (ix2 r c) : EReal) ≤ u := by
  have h := Ideal.multiReduction_maximumf_single g 0xFF800000#32 reduces_S256x640_S256 (.inl rfl) rfl (ix1 r)
  refine (iff_of_eq (congrArg (fun z : EReal => z ≤ u) h)).trans ?_
  rw [Finset.fold_max_le]
  constructor
  · intro h c
    exact (le_of_eq (congrArg g (lift_row reduces_S256x640_S256 r c).symm)).trans (h.2 c (Finset.mem_univ _))
  · intro h
    refine ⟨?_, fun c _ => ?_⟩
    · show (Ideal.ofBits .f32 0xFF800000#32 : EReal) ≤ u
      rw [bot_word]; exact bot_le
    · exact (le_of_eq (congrArg g (lift_row reduces_S256x640_S256 r c))).trans (h c)

/-- One trip of the running maximum, below a bound exactly when the old maximum (dropped at the first trip) and the
    chunk's entries are. -/
theorem pay9_le_iff (k : Fin k0_t1_loop.trips) (x : Vec Ideal S256x1024 .bf16) (v : Vec Ideal S640x1024 .bf16)
    (m : Vec Ideal S256x1 .f32) (r : Fin 256) (u : EReal) :
    (k0_pay9 (F := Ideal) 0#32 1#32 k x v m (ix2 r 0) : EReal) ≤ u
      ↔ (k.val ≠ 0 → (m (ix2 r 0) : EReal) ≤ u) ∧ ∀ c : Fin 640, (k0_pay7 (F := Ideal) x v (ix2 r c) : EReal) ≤ u := by
  have hk : k.val < 17 := trips17 ▸ k.isLt
  have hiv : Scalar.cmpi .eq (Scf.iv 0#32 1#32 k) 0#32 = BitVec.ofBool (decide (k.val = 0)) := by
    have : ∀ n : Fin 17, Scalar.cmpi .eq (Scf.iv 0#32 1#32 n) 0#32 = BitVec.ofBool (decide (n.val = 0)) := by decide +kernel
    exact this ⟨k.val, hk⟩
  unfold k0_pay9
  rw [shapeCast_self]
  show max (Scalar.select (Scalar.cmpi .eq (Scf.iv 0#32 1#32 k) 0#32) (broadcast S256x1 (Ideal.ofBits .f32 0xFF800000#32)) m (ix2 r 0) : EReal)
    (shapeCast S256x1 (multiReduction .maximumf [1] S256 (k0_pay7 x v) 0xFF800000#32 reduces_S256x640_S256 (.inl rfl) rfl) shapeCasts_S256_S256x1 (ix2 r 0)) ≤ u ↔ _
  rw [shapeCast_a_a1_apply, max_le_iff]
  refine and_congr ?_ (rowMax_le_iff _ r u)
  rw [hiv]
  by_cases h : k.val = 0
  · simp [h, Scalar.select, bot_word, broadcast]
  · simp [h, Scalar.select]

/-- After the trips before `n`, the running maximum of a row is below a bound exactly when the entries of the chunks met
    are. -/
theorem mAt_le_iff (x : Vec Ideal S256x1024 .bf16) (w : Vec Ideal S10240x1024 .bf16) (r : Fin 256) (u : EReal) (n : ℕ) (hn : n < 17) :
    (mAt (F := Ideal) x w (n + 1) (ix2 r 0) : EReal) ≤ u ↔ ∀ k, k ≤ n → ∀ c : Fin 640, (k0_pay7 (F := Ideal) x (wch w k) (ix2 r c) : EReal) ≤ u := by
  have hstep : ∀ k, k < 17 → ((mAt (F := Ideal) x w (k + 1) (ix2 r 0) : EReal) ≤ u
      ↔ (k ≠ 0 → (mAt (F := Ideal) x w k (ix2 r 0) : EReal) ≤ u) ∧ ∀ c : Fin 640, (k0_pay7 (F := Ideal) x (wch w k) (ix2 r c) : EReal) ≤ u) := by
    intro k hk
    have hk' : k < k0_t1_loop.trips := by rw [trips17]; exact hk
    have : mAt (F := Ideal) x w (k + 1) = k0_pay9 0#32 1#32 ⟨k, hk'⟩ x (wch w k) (mAt x w k) := by
      show (if h : k < k0_t1_loop.trips then k0_pay9 0#32 1#32 ⟨k, h⟩ x (wch w k) (mAt x w k) else mAt x w k) = _
      rw [dif_pos hk']
    rw [this]
    exact pay9_le_iff ⟨k, hk'⟩ x (wch w k) _ r u
  induction n with
  | zero =>
    rw [hstep 0 hn]
    constructor
    · intro h k hk c
      obtain rfl : k = 0 := by omega
      exact h.2 c
    · intro h
      exact ⟨fun h0 => absurd rfl h0, h 0 le_rfl⟩
  | succ n ih =>
    have ih' := ih (Nat.lt_of_succ_lt hn)
    refine (hstep (n + 1) hn).trans ?_
    refine (and_congr_left' (imp_congr_right fun _ => ih')).trans ?_
    constructor
    · intro h k hk c
      rcases Nat.lt_or_ge n k with h1 | h1
      · obtain rfl : k = n + 1 := by omega
        exact h.2 c
      · exact h.1 (by omega) k h1 c
    · intro h
      exact ⟨fun _ k hk c => h k (by omega) c, h (n + 1) le_rfl⟩

/-- The row maximum the kernel keeps is the least bound of the row's entries. -/
theorem mAt_le_row (x : Vec Ideal S256x1024 .bf16) (w : Vec Ideal S10240x1024 .bf16) (r : Fin 256) (u : EReal) :
    (mAt (F := Ideal) x w 17 (ix2 r 0) : EReal) ≤ u ↔ ∀ j : Fin 10240, rowE x w r j ≤ u := by
  rw [mAt_le_iff x w r u 16 (by decide)]
  constructor
  · intro h j
    have hj := j.isLt
    have := h (j.val / 640) (by omega) ⟨j.val % 640, Nat.mod_lt _ (by decide)⟩
    rwa [pay7_wch x w r _ _ j (by show j.val = 640 * (j.val / 640 % 16) + j.val % 640; omega)] at this
  · intro h k _ c
    have hc := c.isLt
    have hk : k % 16 < 16 := Nat.mod_lt _ (by decide)
    rw [pay7_wch x w r c k ⟨640 * (k % 16) + c.val, by omega⟩ rfl]
    exact h _

/-- The kernel's counts of the entries of each row above the middle. -/
def cnt (lo hi : FVec Ideal S256x1 .f32) (e : Vec Ideal S256x10240 .f32) : FVec Ideal S256 .f32 :=
  multiReduction .add [1] S256 (sitofp (F := Ideal) .f32 (extui 32 (cmpf .ogt e (broadcastTo S256x10240 (k0_pay10 (F := Ideal) lo hi) broadcasts_S256x1_S256x10240)) natLt_1_32))
      0x00000000#32 reduces_S256x10240_S256 (.inl rfl) rfl

/-- The comparison of those counts with the kernel's number. -/
theorem pay11_eq (lo hi : FVec Ideal S256x1 .f32) (e : Vec Ideal S256x10240 .f32) :
    k0_pay11 (F := Ideal) lo hi e
      = cmpf .oge (shapeCast S256x1 (cnt lo hi e) shapeCasts_S256_S256x1) (broadcast S256x1 (Scalar.ofBits (F := Ideal) .f32 0x44000000#32)) := rfl

/-- The middle of a row's bounds. -/
theorem pay10_apply (lo hi : FVec Ideal S256x1 .f32) (r : Fin 256) :
    (k0_pay10 (F := Ideal) lo hi (ix2 r 0) : EReal) = Bisect.mid (lo (ix2 r 0), hi (ix2 r 0)) := by
  show (Ideal.ofBits .f32 0x3F000000#32 : EReal) * _ = _
  rw [half_word]; rfl

/-- A row's count is the number of its entries above the middle. -/
theorem cnt_apply (lo hi : FVec Ideal S256x1 .f32) (e : Vec Ideal S256x10240 .f32) (r : Fin 256) :
    (cnt lo hi e (ix1 r) : EReal)
      = ((Bisect.above (fun j : Fin 10240 => (e (ix2 r j) : EReal)) (Bisect.mid (lo (ix2 r 0), hi (ix2 r 0))) : ℕ) : EReal) := by
  unfold cnt
  refine (Ideal.multiReduction_add_single _ 0x00000000#32 reduces_S256x10240_S256 (.inl rfl) rfl (ix1 r)).trans ?_
  rw [sitofp_extui_eq_uitofp]
  have hterm : ∀ k : Fin 10240, (uitofp (F := Ideal) .f32 (cmpf .ogt e (broadcastTo S256x10240 (k0_pay10 (F := Ideal) lo hi) broadcasts_S256x1_S256x10240)) (reduces_S256x10240_S256.lift (ix1 r) k) : EReal)
      = if Bisect.mid (lo (ix2 r 0), hi (ix2 r 0)) < (e (ix2 r k) : EReal) then 1 else 0 := by
    intro k
    rw [lift_row]
    show (((BitVec.ofBool (decide ((broadcastTo S256x10240 (k0_pay10 (F := Ideal) lo hi) broadcasts_S256x1_S256x10240 (ix2 r k) : EReal) < e (ix2 r k)))).toNat : ℝ) : EReal) = _
    rw [spread_apply, pay10_apply]
    split
    · next h =>
      rw [decide_eq_true h]
      show (((1 : ℕ) : ℝ) : EReal) = 1
      norm_num
    · next h =>
      rw [decide_eq_false h]
      show (((0 : ℕ) : ℝ) : EReal) = 0
      norm_num
  refine (Finset.sum_congr rfl fun k _ => hterm k).trans ?_
  exact Finset.sum_boole (R := EReal) (fun k : Fin 10240 => Bisect.mid (lo (ix2 r 0), hi (ix2 r 0)) < (e (ix2 r k) : EReal)) Finset.univ

/-- The kernel's comparison for a row: at least 512 of its entries lie above the middle. -/
theorem pay11_apply (lo hi : FVec Ideal S256x1 .f32) (e : Vec Ideal S256x10240 .f32) (r : Fin 256) :
    k0_pay11 (F := Ideal) lo hi e (ix2 r 0)
      = BitVec.ofBool (decide (512 ≤ Bisect.above (fun j : Fin 10240 => (e (ix2 r j) : EReal)) (Bisect.mid (lo (ix2 r 0), hi (ix2 r 0))))) := by
  rw [pay11_eq]
  have h := cnt_apply lo hi e r
  generalize cnt lo hi e = g at h ⊢
  show BitVec.ofBool (decide ((Ideal.ofBits .f32 0x44000000#32 : EReal) ≤ shapeCast S256x1 g shapeCasts_S256_S256x1 (ix2 r 0))) = _
  rw [shapeCast_a_a1_apply, h, count_word]
  refine congrArg BitVec.ofBool (decide_eq_decide.mpr ?_)
  have h5 : ((512 : ℝ) : EReal) = ((512 : ℕ) : EReal) := by norm_cast
  rw [h5]
  exact EReal.natCast_le_iff

/-- The bisection's bounds of a row are the bisection of the row. -/
theorem bis_apply (e : Vec Ideal S256x10240 .f32) (mm : FVec Ideal S256x1 .f32) (r : Fin 256) (n : ℕ) :
    (((bis (F := Ideal) e (k0_pay1, mm) n).1 (ix2 r 0) : EReal), ((bis (F := Ideal) e (k0_pay1, mm) n).2 (ix2 r 0) : EReal))
      = Bisect.bounds (fun j : Fin 10240 => (e (ix2 r j) : EReal)) 512 (mm (ix2 r 0)) n := by
  induction n with
  | zero =>
    refine Prod.ext ?_ rfl
    show (Ideal.ofBits .f32 0x00000000#32 : EReal) = 0
    exact Ideal.ofBits_zero_f32
  | succ n ih =>
    show ((Scalar.select (k0_pay11 (F := Ideal) (bis e (k0_pay1, mm) n).1 (bis e (k0_pay1, mm) n).2 e (ix2 r 0))
          (k0_pay10 (F := Ideal) (bis e (k0_pay1, mm) n).1 (bis e (k0_pay1, mm) n).2 (ix2 r 0)) ((bis (F := Ideal) e (k0_pay1, mm) n).1 (ix2 r 0)) : EReal),
        (Scalar.select (k0_pay11 (F := Ideal) (bis e (k0_pay1, mm) n).1 (bis e (k0_pay1, mm) n).2 e (ix2 r 0))
          ((bis (F := Ideal) e (k0_pay1, mm) n).2 (ix2 r 0)) (k0_pay10 (F := Ideal) (bis e (k0_pay1, mm) n).1 (bis e (k0_pay1, mm) n).2 (ix2 r 0)) : EReal))
      = Bisect.step _ 512 (Bisect.bounds _ 512 _ n)
    rw [pay11_apply, ← ih]
    have hmid : (k0_pay10 (F := Ideal) (bis e (k0_pay1, mm) n).1 (bis e (k0_pay1, mm) n).2 (ix2 r 0) : EReal)
        = Bisect.mid (((bis (F := Ideal) e (k0_pay1, mm) n).1 (ix2 r 0) : EReal), ((bis (F := Ideal) e (k0_pay1, mm) n).2 (ix2 r 0) : EReal)) := by
      show (Ideal.ofBits .f32 0x3F000000#32 : EReal) * _ = _
      rw [half_word]; rfl
    rw [hmid]
    unfold Bisect.step
    split
    · next h => rw [decide_eq_true h]; rfl
    · next h => rw [decide_eq_false h]; rfl

/-- A stored entry: the product's, where it lies above the row's lower bound, and zero elsewhere. -/
theorem outOf_apply (e : Vec Ideal S256x10240 .f32) (mm : Vec Ideal S256x1 .f32) (r : Fin 256) (j : Fin 10240) :
    (outOf (F := Ideal) e mm (ix2 r j) : EReal)
      = if (Bisect.bounds (fun j : Fin 10240 => (e (ix2 r j) : EReal)) 512 (max (mm (ix2 r 0)) 0) 17).1 < e (ix2 r j) then (e (ix2 r j) : EReal) else 0 := by
  have hb := congrArg Prod.fst (bis_apply e (k0_pay2 mm) r 17)
  have ht : (k0_pay2 (F := Ideal) mm (ix2 r 0) : EReal) = max (mm (ix2 r 0) : EReal) 0 := by
    show max (mm (ix2 r 0) : EReal) (Ideal.ofBits .f32 0x00000000#32) = _
    rw [Ideal.ofBits_zero_f32]
  rw [ht] at hb
  unfold outOf k0_pay3
  show Scalar.select (BitVec.ofBool (decide ((broadcastTo S256x10240 (bis (F := Ideal) e (k0_pay1, k0_pay2 mm) 17).1 broadcasts_S256x1_S256x10240 (ix2 r j) : EReal) < e (ix2 r j))))
    (e (ix2 r j) : EReal) (Ideal.ofBits .f32 0x00000000#32) = _
  rw [spread_apply, Ideal.ofBits_zero_f32, WordCmp.select_decide, ← hb]

end Cert.KernelIdeal.Fused

end
-- ==== Proof.KI.Value.lean ====
module

public import proofs.«01_k».proof.Proof.KI.Run
public import proofs.«01_k».proof.Proof.KI.Payloads
public import Idealize.ShloMosaic.Lib.Pipeline.ValueKit.Geometry
public import Idealize.ShloMosaic.Lib.StableHlo.ReadAt

/-! The kernel's result array at the extended reals, as a function of the two arguments. -/

@[expose] public section

set_option maxRecDepth 16384

noncomputable section

namespace Cert.KernelIdeal.Fused

open Cert.KernelIdeal Cert.KernelIdeal.Gen
open Idealize.ShloMosaic hiding ix2 ix3
open Idealize.ShloMosaic.TcCoe Idealize.ShloMosaic.Tactic Idealize.ShloMosaic.ValueIdx
open Idealize.SL Idealize.SL.RA Idealize.SL.BI Idealize.SL.Sem

variable (m : (ℓ : Loc nD τ sig) → Buf (Elt Ideal) ℓ)

/-- The block of rows fetched at each point, -/
theorem index0 : ∀ t : Fin cfg0.N, win0_0.index t = ![min t.val 31, 0] :=
  (by decide +kernel : ∀ t : Fin grid0.N, win0_0.index t = ![min t.val 31, 0])
/-- the block of weights, always the whole, -/
theorem index1 : ∀ t : Fin cfg0.N, win0_1.index t = ![0, 0] :=
  (by decide +kernel : ∀ t : Fin grid0.N, win0_1.index t = ![0, 0])
/-- and the block of the result written. -/
theorem index2 : ∀ t : Fin cfg0.N, win0_2.index t = ![t.val - 1, 0] :=
  (by decide +kernel : ∀ t : Fin grid0.N, win0_2.index t = ![t.val - 1, 0])

/-- The narrowed rows are the rows: a change of format changes no extended real. -/
theorem V_x (c : Dev nD) (j : S8192x1024.Idx) : (V m c main_v0 j : EReal) = m ((c : Thread nD τ).loc main_arg0) j := by
  unfold V
  after_reads_at
  rfl
/-- So are the narrowed weights. -/
theorem V_w (c : Dev nD) (j : S10240x1024.Idx) : (V m c main_v1 j : EReal) = m ((c : Thread nD τ).loc main_arg1) j := by
  unfold V
  after_reads_at
  rfl

/-- The block of rows at a point, entry by entry, -/
theorem xAt_apply (c : Dev nD) (t : Fin cfg0.N) (r : Fin 256) (k : Fin 1024) (R : Fin 8192) (hR : R.val = 256 * min t.val 31 + r.val) :
    (xAt (F := Ideal) m c t (ix2 r k) : EReal) = m ((c : Thread nD τ).loc main_arg0) (ix2 R k) := by
  unfold xAt
  rw [← V_x m c]
  blk_ext [iblk, index0]
  · show min t.val 31 * 256 + r.val = R.val
    omega

/-- and the weights. -/
theorem wAt_apply (c : Dev nD) (t : Fin cfg0.N) (j : Fin 10240) (k : Fin 1024) :
    (wAt (F := Ideal) m c t (ix2 j k) : EReal) = m ((c : Thread nD τ).loc main_arg1) (ix2 j k) := by
  unfold wAt
  rw [← V_w m c]
  blk_ext [iblk, index1]

/-- Entry `j` of row `R` of the product of `x` with the transposed weights. -/
def dotRow (x : S8192x1024.Idx → EReal) (w : S10240x1024.Idx → EReal) (R : Fin 8192) (j : Fin 10240) : EReal :=
  ∑ k : Fin 1024, x (ix2 R k) * w (ix2 j k)

/-- The largest entry of a row, or zero when that is larger. -/
def topOf (e : Fin 10240 → EReal) : EReal := Finset.univ.sup e ⊔ 0

/-- The kernel's result: the entries of the product above the bisection's lower end, zero elsewhere. -/
def kept (x : S8192x1024.Idx → EReal) (w : S10240x1024.Idx → EReal) (i : S8192x10240.Idx) : EReal :=
  if (Bisect.bounds (dotRow x w (i 0)) 512 (topOf (dotRow x w (i 0))) 17).1 < dotRow x w (i 0) (i 1)
  then dotRow x w (i 0) (i 1) else 0

/-- A row's maximum, known by its upper bounds, is the largest entry. -/
theorem topOf_eq (e : Fin 10240 → EReal) (M : EReal) (h : ∀ u, M ≤ u ↔ ∀ j, e j ≤ u) : max M 0 = topOf e := by
  have hM : M = Finset.univ.sup e :=
    eq_of_forall_ge_iff fun u => by rw [h, Finset.sup_le_iff]; simp
  rw [hM]; rfl

/-- A row of the block's product is a row of the whole product. -/
theorem rowE_eq (c : Dev nD) (t : Fin cfg0.N) (r : Fin 256) (R : Fin 8192) (hR : R.val = 256 * min t.val 31 + r.val) :
    rowE (xAt (F := Ideal) m c t) (wAt m c t) r
      = dotRow (m ((c : Thread nD τ).loc main_arg0)) (m ((c : Thread nD τ).loc main_arg1)) R := by
  funext j
  unfold rowE dotRow
  exact Finset.sum_congr rfl fun k _ => congrArg₂ (· * ·) (xAt_apply m c t r k R hR) (wAt_apply m c t j k)

/-- What the kernel stores into a block, entry by entry. -/
theorem stored_apply (c : Dev nD) (t : Fin cfg0.N) (r : Fin 256) (j : Fin 10240) (R : Fin 8192) (hR : R.val = 256 * min t.val 31 + r.val) :
    outOf (eAt (F := Ideal) m c t) (mxAt m c t) (ix2 r j)
      = kept (m ((c : Thread nD τ).loc main_arg0)) (m ((c : Thread nD τ).loc main_arg1)) (ix2 R j) := by
  have hrow : (fun j => eAt (F := Ideal) m c t (ix2 r j))
      = dotRow (m ((c : Thread nD τ).loc main_arg0)) (m ((c : Thread nD τ).loc main_arg1)) R :=
    (funext fun j => eFull_apply _ _ r j).trans (rowE_eq m c t r R hR)
  have htop := topOf_eq (rowE (xAt (F := Ideal) m c t) (wAt m c t) r) _ (mAt_le_row (xAt m c t) (wAt m c t) r)
  rw [rowE_eq m c t r R hR] at htop
  refine (outOf_apply _ _ r j).trans ?_
  have hj := congrFun hrow j
  rw [hrow]
  unfold kept
  unfold mxAt
  rw [htop, hj]

/-- The result array after the whole grid. -/
theorem final_out (c : Dev nD) :
    (dats m 0 c).arrAt 2 cfg0.N = kept (m ((c : Thread nD τ).loc main_arg0)) (m ((c : Thread nD τ).loc main_arg1)) := by
  refine (dats m 0 c).arrAt_eq_of_covers 2 _ (by decide +kernel) fun t hf y => ?_
  have h0 : t.val ≠ 0 := fun h => absurd hf (by rw [noFlush2 t h]; exact Bool.false_ne_true)
  have ht : t.val < 33 := t.isLt
  rw [after2, outAt_pos m c _ _ h0]
  blk_simp
  have hr : (y 0).val < 256 := (y 0).isLt
  have hc : (y 1).val < 10240 := (y 1).isLt
  have hR : 256 * (t.val - 1) + (y 0).val < 8192 := by omega
  have hy : y = (ix2 (⟨(y 0).val, hr⟩ : Fin 256) (⟨(y 1).val, hc⟩ : Fin 10240) : S256x10240.Idx) := by
    funext a; fin_cases a <;> rfl
  have he : ((cfg0.win 2).blk t).view.emb y
      = (ix2 (⟨256 * (t.val - 1) + (y 0).val, hR⟩ : Fin 8192) (⟨(y 1).val, hc⟩ : Fin 10240) : S8192x10240.Idx) := by
    blk_ext [index2]
  refine Eq.trans ?_ (congrArg (kept _ _) he).symm
  refine Eq.trans ?_ (stored_apply m c ⟨t.val - 1, lt_of_le_of_lt (Nat.sub_le _ _) t.isLt⟩ ⟨(y 0).val, hr⟩ ⟨(y 1).val, hc⟩ _ ?_)
  · exact congrArg (outOf _ _) hy
  · show 256 * (t.val - 1) + (y 0).val = 256 * min (t.val - 1) 31 + (y 0).val
    omega

end Cert.KernelIdeal.Fused

end
-- ==== Proof.TopRow.lean ====
module

public import proofs.«01_k».proof.Proof.Bisect
public import Idealize.ShloMosaic.PureOps
public import Idealize.ShloMosaic.PureOps.Ideal.Laws
public import Idealize.ShloMosaic.Lib.SortFacts
public import Idealize.ShloMosaic.Lib.ValueIdxCore
public import Idealize.ShloMosaic.Lib.ScatterToDense.Spec

/-! The rows of a top-`K`: the order it sorts a row in, and what the sorted row says about the row. -/

@[expose] public section

noncomputable section

namespace Cert.TopRow

open Idealize.ShloMosaic Idealize.ShloMosaic.ValueIdx

variable {C : ℕ}

/-- The place in the row that the sorted row's entry `q` comes from, largest entries first. -/
def place (y : Fin C → EReal) : Fin C → Fin C := sortedFrom fun k k' => decide (y k' < y k)

/-- No entry of the row is met twice in the sorted row, -/
theorem place_injective (y : Fin C → EReal) : Function.Injective (place y) := sortedFrom_injective _
/-- and every entry is met. -/
theorem place_surjective (y : Fin C → EReal) : Function.Surjective (place y) := sortedFrom_surjective _

/-- The sorted row does not increase. -/
theorem place_anti (y : Fin C → EReal) {i j : Fin C} (h : i ≤ j) : y (place y j) ≤ y (place y i) := by
  rcases h.lt_or_eq with h | rfl
  · have hb := sortedFrom_noInversion (fun k k' => decide (y k' < y k)) (fun k k' => decide (y k' < y k))
      (fun a b hab => by simp only [decide_eq_true_eq, decide_eq_false_iff_not, not_lt] at hab ⊢; exact hab.le)
      (fun _ _ hab => hab)
      (fun a b c hab hbc => by
        simp only [decide_eq_false_iff_not, not_lt] at hab hbc ⊢; exact hab.trans hbc) i j h
    exact not_lt.mp (of_decide_eq_false hb)
  · exact le_rfl

/-- The entry at sorted position `K − 1` is the `K`-th largest. -/
theorem place_kth (e : Fin C → EReal) {K : ℕ} (hK : 0 < K) (hKC : K ≤ C) :
    Bisect.Kth e K (max (e (place (fun j => max (e j) 0) ⟨K - 1, by omega⟩)) 0) := by
  set y : Fin C → EReal := fun j => max (e j) 0 with hy
  set last : Fin C := ⟨K - 1, by omega⟩
  refine ⟨?_, ?_, le_max_right _ _⟩
  · have hsub : (Finset.univ.filter fun q : Fin C => q.val < K).image (place y)
        ⊆ Finset.univ.filter fun j => y (place y last) ≤ y j := by
      intro j hj
      obtain ⟨q, hq, rfl⟩ := Finset.mem_image.mp hj
      have hq' : q.val < K := (Finset.mem_filter.mp hq).2
      exact Finset.mem_filter.mpr ⟨Finset.mem_univ _, place_anti y (Fin.le_def.mpr (show q.val ≤ K - 1 by omega))⟩
    refine le_trans ?_ (Finset.card_le_card hsub)
    rw [Finset.card_image_of_injective _ (place_injective y), Fin.card_filter_val_lt]
    omega
  · have hsub : (Finset.univ.filter fun j => y (place y last) < y j)
        ⊆ (Finset.univ.filter fun q : Fin C => q.val < K - 1).image (place y) := by
      intro j hj
      obtain ⟨q, rfl⟩ := place_surjective y j
      have hj' := (Finset.mem_filter.mp hj).2
      refine Finset.mem_image.mpr ⟨q, Finset.mem_filter.mpr ⟨Finset.mem_univ _, ?_⟩, rfl⟩
      by_contra hq
      exact absurd (place_anti y (Fin.le_def.mpr (show K - 1 ≤ q.val by omega) : last ≤ q)) (not_le.mpr hj')
    refine lt_of_le_of_lt (Finset.card_le_card hsub) ?_
    rw [Finset.card_image_of_injective _ (place_injective y), Fin.card_filter_val_lt]
    omega

/-- The first entry of the sorted row is the largest of the row. -/
theorem place_top (e : Fin C → EReal) (hC : 0 < C) :
    max (e (place (fun j => max (e j) 0) ⟨0, hC⟩)) 0 = Finset.univ.sup e ⊔ 0 := by
  set y : Fin C → EReal := fun j => max (e j) 0 with hy
  refine le_antisymm (max_le_max (Finset.le_sup (Finset.mem_univ _)) le_rfl) ?_
  refine max_le (Finset.sup_le fun j _ => ?_) (le_max_right _ _)
  obtain ⟨q, rfl⟩ := place_surjective y j
  exact (le_max_left _ _).trans (place_anti y (Fin.le_def.mpr (Nat.zero_le _) : (⟨0, hC⟩ : Fin C) ≤ q))

variable {T K : ℕ}

/-- Replacing the column of an index. -/
theorem along_last (R : Fin T) (j k : Fin C) :
    Shape.Idx.along (s := ⟨2, ![T, C]⟩) (ix2 R j) 1 k = ix2 R k := by
  funext a
  fin_cases a <;> rfl

/-- The sort's comparison of two columns of a row: the larger entry comes first. -/
theorem before_eq (x : (⟨2, ![T, C]⟩ : Shape).Idx → EReal) (R : Fin T) (j : Fin C) :
    (fun k k' : Fin C => FloatOps.cmpfTotal (F := Ideal) (φ := .f32) .gt (x (Shape.Idx.along (s := ⟨2, ![T, C]⟩) (ix2 R j) 1 k))
        (x (Shape.Idx.along (s := ⟨2, ![T, C]⟩) (ix2 R j) 1 k')) == 1#1)
      = fun k k' => decide (x (ix2 R k') < x (ix2 R k)) := by
  funext k k'
  rw [along_last, along_last]
  show ((BitVec.ofBool (decide (x (ix2 R k') < x (ix2 R k)))) == 1#1) = _
  cases decide (x (ix2 R k') < x (ix2 R k)) <;> rfl

/-- The first columns of an array, read at an index. -/
theorem cut_index (h : (⟨2, ![T, C]⟩ : Shape).Slices (fun _ => 0) ⟨2, ![T, K]⟩) {α : Type} (y : (⟨2, ![T, C]⟩ : Shape).Idx → α)
    (R : Fin T) (q : Fin K) (hq : q.val < C) :
    extractStridedSlice ⟨2, ![T, K]⟩ (fun _ => 0) y h (ix2 R q) = y (ix2 R ⟨q.val, hq⟩) := by
  refine congrArg y (funext fun a => Fin.ext ?_)
  fin_cases a
  · exact Nat.zero_add _
  · exact Nat.zero_add _

/-- An entry of the top-`K`'s values, -/
theorem topK_value (x : (⟨2, ![T, C]⟩ : Shape).Idx → EReal) (h : (⟨2, ![T, C]⟩ : Shape).Slices (fun _ => 0) ⟨2, ![T, K]⟩)
    (R : Fin T) (q : Fin K) (hq : q.val < C) :
    (Host.topK ⟨2, ![T, K]⟩ 1 (FloatOps.cmpfTotal (F := Ideal) (φ := .f32) .gt) x h).1 (ix2 R q)
      = x (ix2 R (place (fun j => x (ix2 R j)) ⟨q.val, hq⟩)) := by
  unfold Host.topK
  dsimp only
  refine (cut_index h _ R q hq).trans ?_
  unfold Host.sort2
  rw [dif_pos (show 1 < (⟨2, ![T, C]⟩ : Shape).rank from Nat.lt_succ_self 1)]
  refine Eq.trans (congrArg x (along_last R ⟨q.val, hq⟩ _)) ?_
  exact congrArg (fun f => x (ix2 R (sortedFrom f ⟨q.val, hq⟩))) (before_eq x R ⟨q.val, hq⟩)

/-- and of its positions. -/
theorem topK_index (x : (⟨2, ![T, C]⟩ : Shape).Idx → EReal) (h : (⟨2, ![T, C]⟩ : Shape).Slices (fun _ => 0) ⟨2, ![T, K]⟩)
    (R : Fin T) (q : Fin K) (hq : q.val < C) :
    (Host.topK ⟨2, ![T, K]⟩ 1 (FloatOps.cmpfTotal (F := Ideal) (φ := .f32) .gt) x h).2 (ix2 R q)
      = BitVec.ofNat 32 (place (fun j => x (ix2 R j)) ⟨q.val, hq⟩).val := by
  unfold Host.topK
  dsimp only
  refine (cut_index h _ R q hq).trans ?_
  unfold Host.sort2
  rw [dif_pos (show 1 < (⟨2, ![T, C]⟩ : Shape).rank from Nat.lt_succ_self 1)]
  refine Eq.trans (congrArg (fun i : (⟨2, ![T, C]⟩ : Shape).Idx => BitVec.ofNat 32 (i 1).val) (along_last R ⟨q.val, hq⟩ _)) ?_
  exact congrArg (fun f => BitVec.ofNat 32 (sortedFrom f ⟨q.val, hq⟩).val) (before_eq x R ⟨q.val, hq⟩)

/-- A row written word by word holds at a column either what it began with or one of the values written there. -/
theorem GS_cases {α : Type} (word : ℕ → BitVec 32) (val : ℕ → α) (fill : α) (col n : ℕ) :
    ScatterToDense.GS word val fill col n = fill
      ∨ ∃ k < n, col = (word k).toNat ∧ ScatterToDense.GS word val fill col n = val k := by
  induction n with
  | zero => exact Or.inl rfl
  | succ n ih =>
    rw [ScatterToDense.GS_succ]
    split
    · rename_i h
      exact Or.inr ⟨n, Nat.lt_succ_self n, h, rfl⟩
    · rcases ih with h | ⟨k, hk, hc, hv⟩
      · exact Or.inl h
      · exact Or.inr ⟨k, hk.trans (Nat.lt_succ_self n), hc, hv⟩

end Cert.TopRow

end
-- ==== Proof.RefSide.lean ====
module

public import proofs.«01_k».proof.Proof.TopRow
public import proofs.«01_k».proof.Proof.KI.Value
public import proofs.«01_k».proof.Proof.Gen.ReferenceIdeal.Read
public import Idealize.ShloMosaic.Lib.ScatterToDense.RefScatter

/-! The reference at the extended reals, read at an index. -/

@[expose] public section

set_option maxRecDepth 16384

noncomputable section

namespace Cert.RefSide

open Cert.ReferenceIdeal Cert.ReferenceIdeal.Gen Cert.ReferenceIdeal.Read
open Idealize.ShloMosaic hiding ix2 ix3
open Idealize.ShloMosaic.ValueIdx
open Cert.KernelIdeal.Fused (dotRow topOf)

variable (x : S8192x1024.Idx → EReal) (w : S10240x1024.Idx → EReal)

/-- A row of the reference's rectified product. -/
theorem relu_apply (R : Fin 8192) (j : Fin 10240) : (val_main_v2 (F := Ideal) x w (ix2 R j) : EReal) = max (dotRow x w R j) 0 := by
  rw [val_main_v2_apply, val_main_v1_apply, val_main_call0_v0_apply, val_main_call0_cst_apply]
  show max _ (Ideal.ofBits .f32 0x00000000#32) = _
  rw [Ideal.ofBits_zero_f32]
  refine congrArg (fun s : EReal => max s 0) (Finset.sum_congr rfl fun k _ => ?_)
  rw [val_main_v0_apply]
  refine congrArg₂ (fun a b : EReal => a * b) (congrArg x ?_) (congrArg w ?_)
  · funext a; fin_cases a <;> rfl
  · funext a; fin_cases a <;> rfl

/-- The place in row `R` of the `q`-th largest rectified entry. -/
def rank (R : Fin 8192) (q : Fin 512) : Fin 10240 :=
  TopRow.place (fun j => max (dotRow x w R j) 0) ⟨q.val, lt_of_lt_of_le q.isLt (by decide)⟩

/-- The same, as one row. -/
theorem relu_row (R : Fin 8192) : (fun j => (val_main_v2 (F := Ideal) x w (ix2 R j) : EReal)) = fun j => max (dotRow x w R j) 0 :=
  funext fun j => relu_apply x w R j

/-- The reference's largest values, -/
theorem values_apply (R : Fin 8192) (q : Fin 512) :
    (val_main_values (F := Ideal) x w (ix2 R q) : EReal) = max (dotRow x w R (rank x w R q)) 0 := by
  refine (TopRow.topK_value (val_main_v2 (F := Ideal) x w) _ R q (lt_of_lt_of_le q.isLt (by decide))).trans ?_
  rw [relu_row]
  exact relu_apply x w R _

/-- and their positions. -/
theorem indices_apply (R : Fin 8192) (q : Fin 512) :
    val_main_indices (F := Ideal) x w (ix2 R q) = BitVec.ofNat 32 (rank x w R q).val := by
  refine (TopRow.topK_index (val_main_v2 (F := Ideal) x w) _ R q (lt_of_lt_of_le q.isLt (by decide))).trans ?_
  rw [relu_row]
  rfl

/-- A column number fits a 32-bit word. -/
theorem small_word {n : ℕ} (h : n < 10240) : (BitVec.ofNat 32 n).toNat = n := by
  rw [BitVec.toNat_ofNat]
  exact Nat.mod_eq_of_lt (lt_trans h (by decide))

/-- The row number the reference scatters under is the row's own: the wrap of negative numbers leaves it. -/
theorem row_word (i : S8192x1.Idx) : val_main_v10 (F := Ideal) i = BitVec.ofNat 32 (i 0).val := by
  have h : (i 0).val < 8192 := (i 0).isLt
  rw [val_main_v10_apply, val_main_v7_apply, val_main_v6_apply, val_main_c_apply, val_main_v4_apply, val_main_v3_apply]
  exact Routing.wrap_of_lt _ _ (by
    show (BitVec.ofNat 32 (i 0).val).toNat < 2 ^ 31
    rw [small_word (lt_trans h (by decide))]; exact lt_trans h (by decide))

/-- The column number it scatters under is the position of the value, for the same reason. -/
theorem col_word (R : Fin 8192) (q : Fin 512) : val_main_v15 (F := Ideal) x w (ix2 R q) = BitVec.ofNat 32 (rank x w R q).val := by
  rw [val_main_v15_apply, val_main_v12_apply, val_main_v11_apply, val_main_c_1_apply, indices_apply]
  exact Routing.wrap_of_lt _ _ (by
    rw [small_word (rank x w R q).isLt]; exact lt_trans (rank x w R q).isLt (by decide))

/-- The first half of a scatter index is the row, -/
theorem pair_row (R : Fin 8192) (q : Fin 512) : val_main_v19 (F := Ideal) x w (ix3 R q (0 : Fin 2)) = BitVec.ofNat 32 R.val := by
  unfold val_main_v19
  refine (concatenate_pair_apply_left (t := S8192x512x2) (s₁ := S8192x512x1) (s₂ := S8192x512x1) 2
    (val_main_v17 (F := Ideal)) (val_main_v18 (F := Ideal) x w) concatenates_S8192x512x1_S8192x512x1_S8192x512x2_d2 (ix3 R q (0 : Fin 2)) rfl (ix3 R q (0 : Fin 1)) ?_).trans ?_
  · intro b; fin_cases b <;> rfl
  · rw [val_main_v17_apply, val_main_v16_apply, row_word]

/-- the second half the column. -/
theorem pair_col (R : Fin 8192) (q : Fin 512) : val_main_v19 (F := Ideal) x w (ix3 R q (1 : Fin 2)) = BitVec.ofNat 32 (rank x w R q).val := by
  unfold val_main_v19
  refine (concatenate_pair_apply_right (t := S8192x512x2) (s₁ := S8192x512x1) (s₂ := S8192x512x1) 2
    (val_main_v17 (F := Ideal)) (val_main_v18 (F := Ideal) x w) concatenates_S8192x512x1_S8192x512x1_S8192x512x2_d2 (ix3 R q (1 : Fin 2)) rfl rfl (ix3 R q (0 : Fin 1)) ?_ ?_).trans ?_
  · intro b hb; fin_cases b
    · rfl
    · rfl
    · exact absurd rfl hb
  · rfl
  · rw [val_main_v18_apply, ← col_word]
    refine congrArg (val_main_v15 (F := Ideal) x w) ?_
    funext a; fin_cases a <;> rfl

/-- The array the reference scatters into is zero everywhere. -/
theorem fill_apply (i : S8192x10240.Idx) : (val_main_v5 (F := Ideal) i : EReal) = 0 := by
  rw [val_main_v5_apply, val_main_cst_apply]
  exact Ideal.ofBits_zero_f32

/-- The reference's entry is zero, or it is the rectified entry, which is then among the largest 512. -/
theorem out_cases (R : Fin 8192) (j : Fin 10240) :
    (val_main_v20 (F := Ideal) x w (ix2 R j) : EReal) = 0
      ∨ ((val_main_v20 (F := Ideal) x w (ix2 R j) : EReal) = max (dotRow x w R j) 0
        ∧ max (dotRow x w R (rank x w R 511)) 0 ≤ max (dotRow x w R j) 0) := by
  have hGS := ScatterToDense.scatter_eq_GS (T := 8192) (C := 10240) (K := 512) scatter_S8192x10240_S8192x512x2_S8192x512_n_01_01_2
    rfl rfl rfl (by decide) (by decide) (val_main_v5 (F := Ideal)) (val_main_v19 (F := Ideal) x w) (val_main_values (F := Ideal) x w)
    (fun i k => if h : k < 512 then BitVec.ofNat 32 (rank x w i ⟨k, h⟩).val else 0#32)
    (fun i k => if h : k < 512 then max (dotRow x w i (rank x w i ⟨k, h⟩)) 0 else 0)
    (fun i k => pair_row x w i k) (fun i k => by rw [dif_pos k.isLt]; exact pair_col x w i k)
    (fun i k => by rw [dif_pos k.isLt]; exact values_apply x w i k) R j
  have hout : (val_main_v20 (F := Ideal) x w (ix2 R j) : EReal) = _ := hGS
  rw [fill_apply] at hout
  rcases TopRow.GS_cases (fun k => if h : k < 512 then BitVec.ofNat 32 (rank x w R ⟨k, h⟩).val else 0#32)
    (fun k => if h : k < 512 then max (dotRow x w R (rank x w R ⟨k, h⟩)) 0 else 0) (0 : EReal) j.val 512 with h | ⟨k, hk, hc, hv⟩
  · exact Or.inl (hout.trans h)
  · rw [dif_pos hk] at hc hv
    rw [small_word (rank x w R ⟨k, hk⟩).isLt] at hc
    have hj : j = rank x w R ⟨k, hk⟩ := Fin.ext hc
    refine Or.inr ⟨hout.trans (hv.trans (by rw [← hj])), ?_⟩
    rw [hj]
    exact TopRow.place_anti (fun j => max (dotRow x w R j) 0) (Fin.le_def.mpr (show k ≤ 511 by omega))

/-- The last of the reference's values is the 512th largest rectified entry of its row, -/
theorem kth (R : Fin 8192) : Bisect.Kth (dotRow x w R) 512 (max (dotRow x w R (rank x w R 511)) 0) :=
  TopRow.place_kth (dotRow x w R) (K := 512) (by decide) (by decide)

/-- and the first is the largest. -/
theorem top (R : Fin 8192) : max (dotRow x w R (rank x w R 0)) 0 = topOf (dotRow x w R) :=
  TopRow.place_top (dotRow x w R) (by decide)

end Cert.RefSide

end
-- ==== Proof.Mask.lean ====
module

public import proofs.«01_k».proof.Proof.RefSide
public import proofs.«01_k».proof.Proof.Gen.On_decided

/-! The mask `decided`, read at an index of the result. -/

@[expose] public section

set_option maxRecDepth 16384

noncomputable section

namespace Cert.Mask

open Cert.ReferenceIdeal Cert.ReferenceIdeal.Gen Cert.ReferenceIdeal.Read
open Idealize.ShloMosaic hiding ix2 ix3
open Idealize.ShloMosaic.ValueIdx
open Cert.KernelIdeal.Fused (dotRow topOf)

variable (x : S8192x1024.Idx → EReal) (w : S10240x1024.Idx → EReal)

/-- The mask's bound on a row: the 512th largest value less a share of the largest. -/
def edge [Cert.On_decided.Facts] : FVec Ideal S8192x1 .f32 :=
  subf (extractStridedSlice S8192x1 ![0, 511] (val_main_values (F := Ideal) x w) Cert.On_decided.Facts.slices_S8192x512_S8192x1_0_511)
    (mulf (extractStridedSlice S8192x1 ![0, 0] (val_main_values (F := Ideal) x w) Cert.On_decided.Facts.slices_S8192x512_S8192x1_0_0)
      (broadcastInDim S8192x1 ![] Cert.On_decided.Facts.bcast_S_S8192x1 (constant (F := Ideal) S_ .f32 0x37000000#32)))

/-- The mask is the disjunction of its three comparisons. -/
theorem decided_split [Cert.On_decided.Facts] :
    Cert.On_decided.fn (F := Ideal) x w
      = ori (ori (cmpf (F := Ideal) (φ := .f32) .ogt (val_main_v20 (F := Ideal) x w) (val_main_v5 (F := Ideal)))
          (cmpf (F := Ideal) (φ := .f32) .olt (val_main_v2 (F := Ideal) x w)
            (broadcastInDim S8192x10240 ![0, 1] Cert.On_decided.Facts.bcast_S8192x1_S8192x10240_0_1 (edge x w))))
        (cmpf (F := Ideal) (φ := .f32) .ole (val_main_v2 (F := Ideal) x w) (val_main_v5 (F := Ideal))) := rfl

/-- The mask's constant word is two to the minus seventeen. -/
theorem share_word : (Ideal.ofBits .f32 0x37000000#32 : EReal) = ((1 / 2 ^ 17 : ℝ) : EReal) := by
  simp [Ideal.ofBits, Ideal.ieee]
  rw [← EReal.coe_mul]
  norm_num

/-- The bound at a row. -/
theorem edge_apply [Cert.On_decided.Facts] (R : Fin 8192) :
    (edge x w (ix2 R (0 : Fin 1)) : EReal)
      = max (dotRow x w R (RefSide.rank x w R 511)) 0 - topOf (dotRow x w R) * ((1 / 2 ^ 17 : ℝ) : EReal) := by
  rw [← RefSide.values_apply, ← RefSide.top, ← RefSide.values_apply, ← share_word]
  unfold edge
  generalize val_main_values (F := Ideal) x w = v
  refine congrArg₂ (fun a b : EReal => a - b) (congrArg v ?_) (congrArg₂ (fun a b : EReal => a * b) (congrArg v ?_) rfl)
  · funext a; fin_cases a
    · exact Fin.ext (Nat.zero_add _)
    · rfl
  · funext a; fin_cases a
    · exact Fin.ext (Nat.zero_add _)
    · rfl

/-- A disjunction of three bits that is one has a bit that is one. -/
theorem or_bits (a b c : Bool) (h : BitVec.ofBool a ||| BitVec.ofBool b ||| BitVec.ofBool c = 1#1) : a = true ∨ b = true ∨ c = true := by
  revert h; revert a b c; decide

/-- The disjunction of three comparisons, at an index. -/
theorem split_at (a b c d : FVec Ideal S8192x10240 .f32) (i : S8192x10240.Idx)
    (h : ori (ori (cmpf (F := Ideal) (φ := .f32) .ogt a b) (cmpf (F := Ideal) (φ := .f32) .olt c d))
      (cmpf (F := Ideal) (φ := .f32) .ole c b) i = 1#1) :
    (b i : EReal) < a i ∨ (c i : EReal) < d i ∨ (c i : EReal) ≤ b i := by
  have hb := or_bits (decide ((b i : EReal) < a i)) (decide ((c i : EReal) < d i)) (decide ((c i : EReal) ≤ b i)) h
  simpa only [decide_eq_true_eq] using hb

/-- Where the mask is set, one of its three conditions holds. -/
theorem decided_cases [Cert.On_decided.Facts] (R : Fin 8192) (j : Fin 10240)
    (h : Cert.On_decided.fn (F := Ideal) x w (ix2 R j) = 1#1) :
    0 < (val_main_v20 (F := Ideal) x w (ix2 R j) : EReal)
      ∨ max (dotRow x w R j) 0
          < max (dotRow x w R (RefSide.rank x w R 511)) 0 - topOf (dotRow x w R) * ((1 / 2 ^ 17 : ℝ) : EReal)
      ∨ max (dotRow x w R j) 0 ≤ 0 := by
  rw [decided_split] at h
  have hz : (val_main_v5 (F := Ideal) (ix2 R j) : EReal) = 0 := RefSide.fill_apply _
  have he : broadcastInDim S8192x10240 ![0, 1] Cert.On_decided.Facts.bcast_S8192x1_S8192x10240_0_1 (edge x w) (ix2 R j)
      = edge x w (ix2 R (0 : Fin 1)) :=
    broadcastInDim_apply _ _ (edge x w) (ix2 R j) (ix2 R (0 : Fin 1)) (fun a => by fin_cases a <;> rfl)
  have hb := split_at _ _ _ _ _ h
  rw [hz, he, edge_apply, RefSide.relu_apply] at hb
  exact hb

/-- Where the mask is set, the kernel's entry is the reference's. -/
theorem agree [Cert.On_decided.Facts] (i : S8192x10240.Idx) (h : Cert.On_decided.fn (F := Ideal) x w i = 1#1) :
    Cert.KernelIdeal.Fused.kept x w i = val_main_v20 (F := Ideal) x w i := by
  obtain ⟨R, j, rfl⟩ : ∃ (R : Fin 8192) (j : Fin 10240), i = ix2 R j :=
    ⟨i 0, i 1, by funext a; fin_cases a <;> rfl⟩
  exact Bisect.decided_eq (dotRow x w R) (by decide) le_sup_right
    (fun j => (Finset.le_sup (f := dotRow x w R) (Finset.mem_univ j)).trans le_sup_left) (RefSide.kth x w R) j
    (RefSide.out_cases x w R j) (decided_cases x w R j h)

end Cert.Mask

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_decided
public import proofs.«01_k».proof.Proof.K.Run
public import proofs.«01_k».proof.Proof.KI.Value
public import proofs.«01_k».proof.Proof.Mask
public import Idealize.ShloMosaic.Adequacy
public import Idealize.ShloMosaic.Init

@[expose] public section

noncomputable section

namespace Cert.Proof

open Idealize.ShloMosaic Idealize.SL.Sem

/-- The reference terminates without a fault, leaves its two arguments as they were and ends with every counter at zero
    (it has none). -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The kernel ends with its result array holding `kept` of its two arguments, which it leaves as they were. -/
theorem kernel_value (m : (ℓ : Loc Cert.KernelIdeal.nD Cert.KernelIdeal.τ Cert.KernelIdeal.sig) → Buf (Elt Ideal) ℓ) (g : Dev Cert.KernelIdeal.nD → PrngReg) :
    θ_run Cert.KernelIdeal.defs (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v2)
          = Cert.KernelIdeal.Fused.kept (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)) :=
  (θ_run Cert.KernelIdeal.defs _ _).mono
    (fun _ h c => ⟨(Pipeline.FramePost.out_eq h.1 c 2).trans (Cert.KernelIdeal.Fused.final_out m c), h.2.1 c⟩)
    (θ_run_and (Cert.KernelIdeal.Fused.run_arrays m g) (Cert.KernelIdeal.Fused.frame_quiet m g))

/-- The reference ends with its result array holding the read chain's last value of its two arguments, which it leaves as they were. -/
theorem reference_value (m : (ℓ : Loc Cert.ReferenceIdeal.nD Cert.ReferenceIdeal.τ Cert.ReferenceIdeal.sig) → Buf (Elt Ideal) ℓ) (g : Dev Cert.ReferenceIdeal.nD → PrngReg) :
    θ_run Cert.ReferenceIdeal.defs (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v20)
          = Cert.ReferenceIdeal.Read.val_main_v20 (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1)) :=
  (θ_run Cert.ReferenceIdeal.defs _ _).mono
    (fun _ h c => ⟨(h c).1.trans (Cert.ReferenceIdeal.Read.val_main_v20_eq _ _), (h c).2⟩)
    (Cert.ReferenceIdeal.Value.run (F := Ideal) m g)

/-- Where the mask is set, the kernel and the reference end with the same entry. -/
theorem values_agree : Cert.algebraic_KernelIdeal_ReferenceIdeal_on_decided := fun m g m' g' _ hargs =>
  ⟨fun c => Cert.KernelIdeal.Fused.kept (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h c => ⟨fun i _ => congrFun (h c).1 i, (h c).2⟩) (kernel_value m g),
    (θ_run Cert.ReferenceIdeal.defs _ _).mono (fun _ h c => ⟨fun i hi => by
      refine (congrFun (h c).1 i).trans ?_
      rw [(hargs c).1, (hargs c).2]
      exact (Cert.Mask.agree _ _ i hi).symm, (h c).2⟩) (reference_value m' g')⟩

/-- The certificate's claims. -/
theorem claim : Cert.Claim :=
  ⟨Cert.Kernel.Gen.facts, Cert.KernelIdeal.Gen.facts, Cert.ReferenceIdeal.Gen.facts, Cert.On_decided.Gen.facts,
    fun m g _ => Cert.Kernel.Fused.frame_quiet m g, fun m g _ => Cert.KernelIdeal.Fused.frame_quiet m g,
    frame_reference, trivial, values_agree⟩

end Cert.Proof

end
